-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S2x512x2048 : Shape := ⟨3, ![2, 512, 2048]⟩
abbrev S7x512x512 : Shape := ⟨3, ![7, 512, 512]⟩
abbrev S1x128 : Shape := ⟨2, ![1, 128]⟩
abbrev S7x1x128 : Shape := ⟨3, ![7, 1, 128]⟩
abbrev S2 : Shape := ⟨1, ![2]⟩
abbrev S7 : Shape := ⟨1, ![7]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x2048 : Shape := ⟨3, ![1, 512, 2048]⟩
abbrev S1x1x1 : Shape := ⟨3, ![1, 1, 1]⟩
abbrev S128 : Shape := ⟨1, ![128]⟩
abbrev S1x1x128 : Shape := ⟨3, ![1, 1, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S2x512x2048, .f32⟩
  | .local _ .vmem, ⟨3, _⟩ => ⟨S7x512x512, .f32⟩
  | .local _ .vmem, ⟨4, _⟩ => ⟨S1x128, .f32⟩
  | .local _ .vmem, ⟨5, _⟩ => ⟨S7x1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c512_i32 : BitVec 32 := 512#32
  let v34 : BitVec 32 := Scalar.muli v33 c512_i32
  let c0_i32_38 : BitVec 32 := 0#32
  ![v34.toNat, 0]
def k0_dev8 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_34 : BitVec 32 := 1#32
  let v35 : BitVec 32 := Scalar.muli v33 c1_i32_34
  let v36 : BitVec 32 := Scalar.addi c0_i32_35 v35
  v36.toNat
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v44 : BitVec 32 := Scalar.addi v2 c2_i32_39
  let c8_i32_40 : BitVec 32 := 8#32
  let v45 : BitVec 32 := Scalar.remsi v44 c8_i32_40
  let c1_i32_45 : BitVec 32 := 1#32
  let v47 : BitVec 32 := Scalar.muli v45 c1_i32_45
  let v48 : BitVec 32 := Scalar.addi c0_i32_46 v47
  v48.toNat
def k0_dev10 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_50 : BitVec 32 := 3#32
  let v56 : BitVec 32 := Scalar.addi v2 c3_i32_50
  let c8_i32_51 : BitVec 32 := 8#32
  let v57 : BitVec 32 := Scalar.remsi v56 c8_i32_51
  let c1_i32_56 : BitVec 32 := 1#32
  let v59 : BitVec 32 := Scalar.muli v57 c1_i32_56
  let v60 : BitVec 32 := Scalar.addi c0_i32_57 v59
  v60.toNat
def k0_dev11 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_61 : BitVec 32 := 4#32
  let v68 : BitVec 32 := Scalar.addi v2 c4_i32_61
  let c8_i32_62 : BitVec 32 := 8#32
  let v69 : BitVec 32 := Scalar.remsi v68 c8_i32_62
  let c1_i32_67 : BitVec 32 := 1#32
  let v71 : BitVec 32 := Scalar.muli v69 c1_i32_67
  let v72 : BitVec 32 := Scalar.addi c0_i32_68 v71
  v72.toNat
def k0_dev12 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v80 : BitVec 32 := Scalar.addi v2 c5_i32_72
  let c8_i32_73 : BitVec 32 := 8#32
  let v81 : BitVec 32 := Scalar.remsi v80 c8_i32_73
  let c1_i32_78 : BitVec 32 := 1#32
  let v83 : BitVec 32 := Scalar.muli v81 c1_i32_78
  let v84 : BitVec 32 := Scalar.addi c0_i32_79 v83
  v84.toNat
def k0_dev13 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_83 : BitVec 32 := 6#32
  let v92 : BitVec 32 := Scalar.addi v2 c6_i32_83
  let c8_i32_84 : BitVec 32 := 8#32
  let v93 : BitVec 32 := Scalar.remsi v92 c8_i32_84
  let c1_i32_89 : BitVec 32 := 1#32
  let v95 : BitVec 32 := Scalar.muli v93 c1_i32_89
  let v96 : BitVec 32 := Scalar.addi c0_i32_90 v95
  v96.toNat
def k0_dev14 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_94 : BitVec 32 := 7#32
  let v104 : BitVec 32 := Scalar.addi v2 c7_i32_94
  let c8_i32_95 : BitVec 32 := 8#32
  let v105 : BitVec 32 := Scalar.remsi v104 c8_i32_95
  let c1_i32_100 : BitVec 32 := 1#32
  let v107 : BitVec 32 := Scalar.muli v105 c1_i32_100
  let v108 : BitVec 32 := Scalar.addi c0_i32_101 v107
  v108.toNat
def k0_off2 (d0 : Dev nD) (c0_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v116 : BitVec 32 := Scalar.subi v2 c0_i32_105
  let c8_i32_106 : BitVec 32 := 8#32
  let v117 : BitVec 32 := Scalar.addi v116 c8_i32_106
  let c8_i32_107 : BitVec 32 := 8#32
  let v118 : BitVec 32 := Scalar.remsi v117 c8_i32_107
  let c512_i32_108 : BitVec 32 := 512#32
  let v119 : BitVec 32 := Scalar.muli v118 c512_i32_108
  let c0_i32_113 : BitVec 32 := 0#32
  ![v119.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_132 : BitVec 32 := 512#32
  let v143 : BitVec 32 := Scalar.muli v2 c512_i32_132
  let v144 : Index := Scalar.indexCast v143
  let c0 : Index := 0#32
  ![v144.toNat, 0]
def k0_dev15 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_392 : BitVec 32 := 1#32
  let v395 : BitVec 32 := Scalar.addi v2 c1_i32_392
  let c8_i32_393 : BitVec 32 := 8#32
  let v396 : BitVec 32 := Scalar.remsi v395 c8_i32_393
  let c1_i32_397 : BitVec 32 := 1#32
  let v397 : BitVec 32 := Scalar.muli v396 c1_i32_397
  let v398 : BitVec 32 := Scalar.addi c0_i32_398 v397
  v398.toNat
def k0_dev16 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_401 : BitVec 32 := 2#32
  let v405 : BitVec 32 := Scalar.addi v2 c2_i32_401
  let c8_i32_402 : BitVec 32 := 8#32
  let v406 : BitVec 32 := Scalar.remsi v405 c8_i32_402
  let c1_i32_406 : BitVec 32 := 1#32
  let v407 : BitVec 32 := Scalar.muli v406 c1_i32_406
  let v408 : BitVec 32 := Scalar.addi c0_i32_407 v407
  v408.toNat
def k0_dev17 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_410 : BitVec 32 := 3#32
  let v415 : BitVec 32 := Scalar.addi v2 c3_i32_410
  let c8_i32_411 : BitVec 32 := 8#32
  let v416 : BitVec 32 := Scalar.remsi v415 c8_i32_411
  let c1_i32_415 : BitVec 32 := 1#32
  let v417 : BitVec 32 := Scalar.muli v416 c1_i32_415
  let v418 : BitVec 32 := Scalar.addi c0_i32_416 v417
  v418.toNat
def k0_dev18 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_419 : BitVec 32 := 4#32
  let v425 : BitVec 32 := Scalar.addi v2 c4_i32_419
  let c8_i32_420 : BitVec 32 := 8#32
  let v426 : BitVec 32 := Scalar.remsi v425 c8_i32_420
  let c1_i32_424 : BitVec 32 := 1#32
  let v427 : BitVec 32 := Scalar.muli v426 c1_i32_424
  let v428 : BitVec 32 := Scalar.addi c0_i32_425 v427
  v428.toNat
def k0_dev19 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_428 : BitVec 32 := 5#32
  let v435 : BitVec 32 := Scalar.addi v2 c5_i32_428
  let c8_i32_429 : BitVec 32 := 8#32
  let v436 : BitVec 32 := Scalar.remsi v435 c8_i32_429
  let c1_i32_433 : BitVec 32 := 1#32
  let v437 : BitVec 32 := Scalar.muli v436 c1_i32_433
  let v438 : BitVec 32 := Scalar.addi c0_i32_434 v437
  v438.toNat
def k0_dev20 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_437 : BitVec 32 := 6#32
  let v445 : BitVec 32 := Scalar.addi v2 c6_i32_437
  let c8_i32_438 : BitVec 32 := 8#32
  let v446 : BitVec 32 := Scalar.remsi v445 c8_i32_438
  let c1_i32_442 : BitVec 32 := 1#32
  let v447 : BitVec 32 := Scalar.muli v446 c1_i32_442
  let v448 : BitVec 32 := Scalar.addi c0_i32_443 v447
  v448.toNat
def k0_dev21 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_446 : BitVec 32 := 7#32
  let v455 : BitVec 32 := Scalar.addi v2 c7_i32_446
  let c8_i32_447 : BitVec 32 := 8#32
  let v456 : BitVec 32 := Scalar.remsi v455 c8_i32_447
  let c1_i32_451 : BitVec 32 := 1#32
  let v457 : BitVec 32 := Scalar.muli v456 c1_i32_451
  let v458 : BitVec 32 := Scalar.addi c0_i32_452 v457
  v458.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Blocks.lean ====
/-
The kernel's protocol: who signals or copies onto which semaphore, how much, in which round, and what each landing
hands to the semaphore's owner.

Eight devices. Device `c`'s `j`-th peer is `c + j + 1` and its `j`-th source is `c - (j + 1)`, both modulo 8.

* Barrier semaphore of `c`: seven units, one from each peer. The unit from peer `j` hands `c` the peer's landing slot `j`
  for a block of rows and its landing slot `j` for a row maximum, both at any contents.
* Send semaphore `j`: the credit of `c`'s own transfer to peer `j`; hands back the block of rows that was sent.
* Receive semaphore `j`: the credit of the transfer from source `j`; hands over landing slot `j`, holding the source's
  block of rows for `c`.
* Maximum-send semaphore `j` and maximum-receive semaphore `j`: the same for the vector that holds a device's maximum.
* Weight semaphore `s`: four rounds; round `r` is the credit of the copy of weight block `2 r + s` into slot `s`, and hands
  over the slot with the block's rows in it and the rows copied from.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Transfers
public import Idealize.ShloMosaic.Lib.Ring
public import Idealize.ShloMosaic.Lib.ValueLayout
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Peers -/

set_option backward.proofsInPublic true in
/-- Device `c`'s `j`-th peer, `c + j + 1`: the device its `j`-th signal and `j`-th transfer go to. -/
def peer (c : Dev nD) (j : Fin 7) : Dev nD := ⟨(c.val + j.val + 1) % 8, Nat.mod_lt _ (by decide)⟩
set_option backward.proofsInPublic true in
/-- Device `c`'s `j`-th source, `c - (j + 1)`: the device whose `j`-th transfer comes to `c`. -/
def source (c : Dev nD) (j : Fin 7) : Dev nD := ⟨(c.val + 7 - j.val) % 8, Nat.mod_lt _ (by decide)⟩

theorem source_peer (c : Dev nD) (j : Fin 7) : source (peer c j) j = c := by revert c j; decide
theorem peer_source (c : Dev nD) (j : Fin 7) : peer (source c j) j = c := by revert c j; decide
/-- Going on by `j + 1` and then by `7 - j` comes round to the start. -/
theorem peer_peer_rev (c : Dev nD) (j : Fin 7) : peer (peer c j) j.rev = c := by revert c j; decide

/-- The devices are permuted by going to the `j`-th peer. -/
def ring (j : Fin 7) : Dev nD ≃ Dev nD :=
  ⟨fun c => peer c j, fun c => source c j, fun c => source_peer c j, fun c => peer_source c j⟩

/-! ## The memrefs and semaphores -/

abbrev xM : Memref sig .tc .vmem S4096x512 .f32 := Memref.whole cc0_stg0_0
abbrev wM : Memref sig .tc .hbm S4096x2048 .f32 := Memref.whole main_arg1
abbrev oM : Memref sig .tc .vmem S512x2048 .f32 := Memref.whole cc0_stg1_0
abbrev wbM : Memref sig .tc .vmem S2x512x2048 .f32 := Memref.whole cc0_scratch0
abbrev rM : Memref sig .tc .vmem S7x512x512 .f32 := Memref.whole cc0_scratch1
abbrev asM : Memref sig .tc .vmem S1x128 .f32 := Memref.whole cc0_scratch2
abbrev arM : Memref sig .tc .vmem S7x1x128 .f32 := Memref.whole cc0_scratch3

theorem inb_sem7 (j : Fin 7) : ∀ a, (![j.val] : Fin 1 → Nat) a + S1.size a ≤ S7.size a := by revert j; decide
theorem inb_sem2 (s : Fin 2) : ∀ a, (![s.val] : Fin 1 → Nat) a + S1.size a ≤ S2.size a := by revert s; decide
theorem inb_r (j : Fin 7) : ∀ a, (![j.val, 0, 0] : Fin 3 → Nat) a + S1x512x512.size a ≤ S7x512x512.size a := by revert j; decide
theorem inb_a (j : Fin 7) : ∀ a, (![j.val, 0, 0] : Fin 3 → Nat) a + S1x1x128.size a ≤ S7x1x128.size a := by revert j; decide
theorem inb_wb (s : Fin 2) : ∀ a, (![s.val, 0, 0] : Fin 3 → Nat) a + S1x512x2048.size a ≤ S2x512x2048.size a := by revert s; decide

/-- The rows of the staged operand that go to peer `j`. -/
abbrev xBlk (c : Dev nD) (j : Fin 7) : Memref sig .tc .vmem S512x512 .f32 :=
  xM.slice (Rect.unit (s := S4096x512) (k0_off1 c (BitVec.ofNat 32 (1 + j.val))) S512x512.size (k0_off1_inb c j)) (fun _ => rfl)
/-- The rows of the weights that the `k`-th step multiplies by. -/
abbrev wRow (c : Dev nD) (k : Fin 8) : Memref sig .tc .hbm S512x2048 .f32 :=
  wM.slice (Rect.unit (s := S4096x2048) (k0_off2 c (BitVec.ofNat 32 k.val)) S512x2048.size (k0_off2_inb c k)) (fun _ => rfl)
abbrev rSlot (j : Fin 7) : Memref sig .tc .vmem S512x512 .f32 :=
  (rM.slice (Rect.unit (s := S7x512x512) ![j.val, 0, 0] S1x512x512.size (inb_r j)) (fun _ => rfl)).squeeze S512x512 squeezes_S1x512x512_S512x512
abbrev aSlot (j : Fin 7) : Memref sig .tc .vmem S1x128 .f32 :=
  (arM.slice (Rect.unit (s := S7x1x128) ![j.val, 0, 0] S1x1x128.size (inb_a j)) (fun _ => rfl)).squeeze S1x128 squeezes_S1x1x128_S1x128
abbrev wSlot (s : Fin 2) : Memref sig .tc .vmem S512x2048 .f32 :=
  (wbM.slice (Rect.unit (s := S2x512x2048) ![s.val, 0, 0] S1x512x2048.size (inb_wb s)) (fun _ => rfl)).squeeze S512x2048 squeezes_S1x512x2048_S512x2048

abbrev barS : Sem sig := (SemArray.scalar (sig.barrier 0 rfl) : Sems sig S_).sem
abbrev wS (s : Fin 2) : DmaSem sig := ((cc0_scratch4.slice (Rect.unit (s := S2) ![s.val] S1.size (inb_sem2 s))).squeeze S_ squeezes_S1_S_).sem
abbrev sndS (j : Fin 7) : DmaSem sig := ((cc0_scratch5.slice (Rect.unit (s := S7) ![j.val] S1.size (inb_sem7 j))).squeeze S_ squeezes_S1_S_).sem
abbrev rcvS (j : Fin 7) : DmaSem sig := ((cc0_scratch6.slice (Rect.unit (s := S7) ![j.val] S1.size (inb_sem7 j))).squeeze S_ squeezes_S1_S_).sem
abbrev asndS (j : Fin 7) : DmaSem sig := ((cc0_scratch7.slice (Rect.unit (s := S7) ![j.val] S1.size (inb_sem7 j))).squeeze S_ squeezes_S1_S_).sem
abbrev arcvS (j : Fin 7) : DmaSem sig := ((cc0_scratch8.slice (Rect.unit (s := S7) ![j.val] S1.size (inb_sem7 j))).squeeze S_ squeezes_S1_S_).sem

theorem wS_val (s : Fin 2) : (wS s).val = 2 + s.val := by revert s; decide
theorem sndS_val (j : Fin 7) : (sndS j).val = 4 + j.val := by revert j; decide
theorem rcvS_val (j : Fin 7) : (rcvS j).val = 11 + j.val := by revert j; decide
theorem asndS_val (j : Fin 7) : (asndS j).val = 18 + j.val := by revert j; decide
theorem arcvS_val (j : Fin 7) : (arcvS j).val = 25 + j.val := by revert j; decide

abbrev barC (c : Dev nD) : GSem nD τ sig := ((c : Thread nD τ), .reg barS)
abbrev wC (c : Dev nD) (s : Fin 2) : GSem nD τ sig := ((c : Thread nD τ), .dma (wS s))
abbrev sndC (c : Dev nD) (j : Fin 7) : GSem nD τ sig := ((c : Thread nD τ), .dma (sndS j))
abbrev rcvC (c : Dev nD) (j : Fin 7) : GSem nD τ sig := ((c : Thread nD τ), .dma (rcvS j))
abbrev asndC (c : Dev nD) (j : Fin 7) : GSem nD τ sig := ((c : Thread nD τ), .dma (asndS j))
abbrev arcvC (c : Dev nD) (j : Fin 7) : GSem nD τ sig := ((c : Thread nD τ), .dma (arcvS j))

/-- The credits of a block of rows, of a maximum vector and of a weight block. -/
def Nx : ℕ := (rSlot 0).view.dmaCredit
def Na : ℕ := (aSlot 0).view.dmaCredit
def Nw : ℕ := (wSlot 0).view.dmaCredit
theorem Nx_pos : 0 < Nx := View.dmaCredit_pos _ (by decide)
theorem Na_pos : 0 < Na := View.dmaCredit_pos _ (by decide)
theorem Nw_pos : 0 < Nw := View.dmaCredit_pos _ (by decide)

theorem credit_rSlot (j : Fin 7) : (rSlot j).view.dmaCredit = Nx := rfl
theorem credit_xBlk (c : Dev nD) (j : Fin 7) : (xBlk c j).view.dmaCredit = Nx := rfl
theorem credit_aSlot (j : Fin 7) : (aSlot j).view.dmaCredit = Na := rfl
theorem credit_asM : asM.view.dmaCredit = Na := rfl
theorem credit_wSlot (s : Fin 2) : (wSlot s).view.dmaCredit = Nw := rfl

attribute [irreducible] Nx Na Nw

/-! ## Which elements the blocks and slots are -/

theorem mem_xBlk (c : Dev nD) (j : Fin 7) (i : S4096x512.Idx) :
    i ∈ (xBlk c j).view.set ↔ 512 * (peer c j).val ≤ (i 0).val ∧ (i 0).val < 512 * (peer c j).val + 512 := by
  have h1 : (i 1).val < 512 := (i 1).isLt
  rw [show (xBlk c j).view.set = (Rect.unit (s := S4096x512) (k0_off1 c (BitVec.ofNat 32 (1 + j.val))) S512x512.size (k0_off1_inb c j)).set from
    View.set_slice_whole _ _, Rect.mem_set_unit, k0_off1_eq c j]
  constructor
  · intro h; have := h 0; change 512 * ((c.val + j.val + 1) % 8) ≤ (i 0).val ∧ (i 0).val < 512 * ((c.val + j.val + 1) % 8) + 512 at this; exact this
  · intro h a
    match a with
    | ⟨0, _⟩ => exact h
    | ⟨1, _⟩ => change 0 ≤ (i 1).val ∧ (i 1).val < 0 + 512; omega

theorem mem_rSlot (j : Fin 7) (i : S7x512x512.Idx) : i ∈ (rSlot j).view.set ↔ (i 0).val = j.val := by
  rw [show (rSlot j).view.set = (Rect.unit (s := S7x512x512) ![j.val, 0, 0] S1x512x512.size (inb_r j)).set from
    (View.set_reshape _ _).trans (View.set_slice_whole _ _), Rect.mem_set_unit]
  have h1 : (i 1).val < 512 := (i 1).isLt
  have h2 : (i 2).val < 512 := (i 2).isLt
  constructor
  · intro h; have := h 0; change j.val ≤ (i 0).val ∧ (i 0).val < j.val + 1 at this; omega
  · intro h a
    match a with
    | ⟨0, _⟩ => change j.val ≤ (i 0).val ∧ (i 0).val < j.val + 1; omega
    | ⟨1, _⟩ => change 0 ≤ (i 1).val ∧ (i 1).val < 0 + 512; omega
    | ⟨2, _⟩ => change 0 ≤ (i 2).val ∧ (i 2).val < 0 + 512; omega

theorem mem_aSlot (j : Fin 7) (i : S7x1x128.Idx) : i ∈ (aSlot j).view.set ↔ (i 0).val = j.val := by
  rw [show (aSlot j).view.set = (Rect.unit (s := S7x1x128) ![j.val, 0, 0] S1x1x128.size (inb_a j)).set from
    (View.set_reshape _ _).trans (View.set_slice_whole _ _), Rect.mem_set_unit]
  have h1 : (i 1).val < 1 := (i 1).isLt
  have h2 : (i 2).val < 128 := (i 2).isLt
  constructor
  · intro h; have := h 0; change j.val ≤ (i 0).val ∧ (i 0).val < j.val + 1 at this; omega
  · intro h a
    match a with
    | ⟨0, _⟩ => change j.val ≤ (i 0).val ∧ (i 0).val < j.val + 1; omega
    | ⟨1, _⟩ => change 0 ≤ (i 1).val ∧ (i 1).val < 0 + 1; omega
    | ⟨2, _⟩ => change 0 ≤ (i 2).val ∧ (i 2).val < 0 + 128; omega

theorem mem_wSlot (k : Fin 2) (i : S2x512x2048.Idx) : i ∈ (wSlot k).view.set ↔ (i 0).val = k.val := by
  rw [show (wSlot k).view.set = (Rect.unit (s := S2x512x2048) ![k.val, 0, 0] S1x512x2048.size (inb_wb k)).set from
    (View.set_reshape _ _).trans (View.set_slice_whole _ _), Rect.mem_set_unit]
  have h1 : (i 1).val < 512 := (i 1).isLt
  have h2 : (i 2).val < 2048 := (i 2).isLt
  constructor
  · intro h; have := h 0; change k.val ≤ (i 0).val ∧ (i 0).val < k.val + 1 at this; omega
  · intro h a
    match a with
    | ⟨0, _⟩ => change k.val ≤ (i 0).val ∧ (i 0).val < k.val + 1; omega
    | ⟨1, _⟩ => change 0 ≤ (i 1).val ∧ (i 1).val < 0 + 512; omega
    | ⟨2, _⟩ => change 0 ≤ (i 2).val ∧ (i 2).val < 0 + 2048; omega

/-! ## Contents -/

/-- The operand block staged on device `c`. -/
def xstg (c : Dev nD) : (cc0_stg0_0 : Ref sig .tc).ty.Contents (Elt F) :=
  (win0_0.blk (0 : Fin 1)).view.read (Elt F) ((s₀ m ρ).mem ((c : Thread nD τ).loc main_arg0))
/-- The weights on device `c`. -/
def wmem (c : Dev nD) : (main_arg1 : Ref sig .tc).ty.Contents (Elt F) := m ((c : Thread nD τ).loc main_arg1)

/-- The landing buffer for blocks of rows once all have landed: slot `j` holds source `j`'s rows for `c`. -/
def rBuf (c : Dev nD) : (cc0_scratch1 : Ref sig .tc).ty.Contents (Elt F) := fun i : S7x512x512.Idx =>
  xstg m ρ (source c (i 0)) (ValueIdx.ix2 (⟨512 * c.val + (i 1).val, by
    have h1 : (i 1).val < 512 := (i 1).isLt
    have h2 : c.val < 8 := c.isLt
    omega⟩ : Fin 4096) (i 2 : Fin 512))

/-- The weight buffer while it holds the block of step `k` (in whichever slot). -/
def wBuf (c : Dev nD) (k : Fin 8) : (cc0_scratch0 : Ref sig .tc).ty.Contents (Elt F) := fun i : S2x512x2048.Idx =>
  wmem m c (ValueIdx.ix2 (⟨512 * ((c.val + 8 - k.val) % 8) + (i 1).val, by
    have h1 : (i 1).val < 512 := (i 1).isLt
    omega⟩ : Fin 4096) (i 2 : Fin 2048))

/-! ## What the blocks and slots read, element by element -/

/-- A matrix index matched with the same shape under a leading unit axis: that axis at `0`, the rest unchanged. -/
theorem reshape_flat {a b : ℕ} (h : (⟨2, ![a, b]⟩ : Shape).numel = (⟨3, ![1, a, b]⟩ : Shape).numel) (y : (⟨2, ![a, b]⟩ : Shape).Idx) :
    Shape.reshapeEquiv h y = ValueIdx.ix3 (⟨0, Nat.one_pos⟩ : Fin 1) (y 0) (y 1) :=
  (congrArg _ (ValueIdx.eq_ix2 y)).trans (ValueIdx.reshapeEquiv_ix2_1ab h (y 0) (y 1))

omit [FloatOps F] in
theorem xBlk_read (c : Dev nD) (j : Fin 7) (f : (cc0_stg0_0 : Ref sig .tc).ty.Contents (Elt F)) (y : S512x512.Idx) :
    (xBlk c j).view.read (Elt F) f y = f (ValueIdx.ix2 (⟨512 * (peer c j).val + (y 0).val, by
      have h1 : (y 0).val < 512 := (y 0).isLt
      have h2 : (peer c j).val < 8 := (peer c j).isLt
      omega⟩ : Fin 4096) (y 1 : Fin 512)) := by
  show f ((xBlk c j).view.emb y) = _
  refine congrArg f (funext fun a => Fin.ext ?_)
  refine (ValueKit.view_emb_slice_whole_unit_val cc0_stg0_0 _ _ _ y a).trans ?_
  match a with
  | ⟨0, _⟩ => exact congrArg (· + (y 0).val) (congrFun (k0_off1_eq c j) 0)
  | ⟨1, _⟩ => exact (congrArg (· + (y 1).val) (congrFun (k0_off1_eq c j) 1)).trans (Nat.zero_add _)

omit [FloatOps F] in
theorem wRow_read (c : Dev nD) (k : Fin 8) (f : (main_arg1 : Ref sig .tc).ty.Contents (Elt F)) (y : S512x2048.Idx) :
    (wRow c k).view.read (Elt F) f y = f (ValueIdx.ix2 (⟨512 * ((c.val + 8 - k.val) % 8) + (y 0).val, by
      have h1 : (y 0).val < 512 := (y 0).isLt
      omega⟩ : Fin 4096) (y 1 : Fin 2048)) := by
  show f ((wRow c k).view.emb y) = _
  refine congrArg f (funext fun a => Fin.ext ?_)
  refine (ValueKit.view_emb_slice_whole_unit_val main_arg1 _ _ _ y a).trans ?_
  match a with
  | ⟨0, _⟩ => exact congrArg (· + (y 0).val) (congrFun (k0_off2_eq c k) 0)
  | ⟨1, _⟩ => exact (congrArg (· + (y 1).val) (congrFun (k0_off2_eq c k) 1)).trans (Nat.zero_add _)

omit [FloatOps F] in
theorem rSlot_read (j : Fin 7) (f : (cc0_scratch1 : Ref sig .tc).ty.Contents (Elt F)) (y : S512x512.Idx) :
    (rSlot j).view.read (Elt F) f y = f (ValueIdx.ix3 j (y 0 : Fin 512) (y 1 : Fin 512)) := by
  refine (congrArg (fun z => f (((View.whole cc0_scratch1).slice (Rect.unit (s := S7x512x512) ![j.val, 0, 0] S1x512x512.size (inb_r j))).emb z)) (reshape_flat _ y)).trans ?_
  refine congrArg f (funext fun a => Fin.ext ?_)
  refine (ValueKit.view_emb_slice_whole_unit_val cc0_scratch1 _ _ _ _ a).trans ?_
  match a with
  | ⟨0, _⟩ => rfl
  | ⟨1, _⟩ => exact Nat.zero_add _
  | ⟨2, _⟩ => exact Nat.zero_add _

omit [FloatOps F] in
theorem wSlot_read (s : Fin 2) (f : (cc0_scratch0 : Ref sig .tc).ty.Contents (Elt F)) (y : S512x2048.Idx) :
    (wSlot s).view.read (Elt F) f y = f (ValueIdx.ix3 s (y 0 : Fin 512) (y 1 : Fin 2048)) := by
  refine (congrArg (fun z => f (((View.whole cc0_scratch0).slice (Rect.unit (s := S2x512x2048) ![s.val, 0, 0] S1x512x2048.size (inb_wb s))).emb z)) (reshape_flat _ y)).trans ?_
  refine congrArg f (funext fun a => Fin.ext ?_)
  refine (ValueKit.view_emb_slice_whole_unit_val cc0_scratch0 _ _ _ _ a).trans ?_
  match a with
  | ⟨0, _⟩ => rfl
  | ⟨1, _⟩ => exact Nat.zero_add _
  | ⟨2, _⟩ => exact Nat.zero_add _

omit [FloatOps F] in
theorem aSlot_read (j : Fin 7) (f : (cc0_scratch3 : Ref sig .tc).ty.Contents (Elt F)) (y : S1x128.Idx) :
    (aSlot j).view.read (Elt F) f y = f (ValueIdx.ix3 j (y 0 : Fin 1) (y 1 : Fin 128)) := by
  refine (congrArg (fun z => f (((View.whole cc0_scratch3).slice (Rect.unit (s := S7x1x128) ![j.val, 0, 0] S1x1x128.size (inb_a j))).emb z)) (reshape_flat _ y)).trans ?_
  refine congrArg f (funext fun a => Fin.ext ?_)
  refine (ValueKit.view_emb_slice_whole_unit_val cc0_scratch3 _ _ _ _ a).trans ?_
  match a with
  | ⟨0, _⟩ => rfl
  | ⟨1, _⟩ => exact Nat.zero_add _
  | ⟨2, _⟩ => exact Nat.zero_add _

omit [FloatOps F] in
/-- Landing slot `j` of the `j`-th peer, once all has landed, reads as the rows that were sent to it. -/
theorem read_rSlot (c : Dev nD) (j : Fin 7) :
    (rSlot j).view.read (Elt F) (rBuf m ρ (peer c j)) = (xBlk c j).view.read (Elt F) (xstg m ρ c) := by
  funext y
  rw [rSlot_read, xBlk_read]
  show xstg m ρ (source (peer c j) j) _ = _
  rw [source_peer]

omit [FloatOps F] in
/-- The weight buffer at step `k` reads, in either slot, as the weight rows of that step. -/
theorem read_wSlot (c : Dev nD) (k : Fin 8) (s : Fin 2) :
    (wSlot s).view.read (Elt F) (wBuf m c k) = (wRow c k).view.read (Elt F) (wmem m c) := by
  funext y
  rw [wSlot_read, wRow_read]
  rfl

/-- The landing buffer for vectors of maxima once all have landed, when device `d` sends `V d`: slot `j` holds source `j`'s. -/
def aLand (V : Dev nD → (cc0_scratch2 : Ref sig .tc).ty.Contents (Elt F)) (c : Dev nD) : (cc0_scratch3 : Ref sig .tc).ty.Contents (Elt F) :=
  fun i : S7x1x128.Idx => V (source c (i 0)) (ValueIdx.ix2 (i 1 : Fin 1) (i 2 : Fin 128))

omit [FloatOps F] in
/-- The `j`-th peer's slot for maxima reads as the vector sent to it. -/
theorem read_aLand (V : Dev nD → (cc0_scratch2 : Ref sig .tc).ty.Contents (Elt F)) (c : Dev nD) (j : Fin 7) :
    (aSlot j).view.read (Elt F) (aLand V (peer c j)) = asM.view.read (Elt F) (V c) := by
  funext y
  rw [aSlot_read]
  show V (source (peer c j) j) _ = V c y
  exact (congrArg (fun d => V d _) (source_peer c j)).trans (congrArg (V c) (ValueIdx.eq_ix2 y).symm)

end Cert.KernelIdealProof
-- ==== Proof.Values.lean ====
/-
The kernel's values. What device `c` computes is a chain of the body's own payloads over the blocks it loads: eight
products summed, a lower bound of zero, the maximum of the result, the maximum over all devices, the quantised result.
-/
module

public import proofs.«01_k».proof.Proof.Blocks

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is loaded -/

theorem inb_am (j : Fin 7) : ∀ a, (![j.val, 0, 0] : Fin 3 → Nat) a + S1x1x1.size a ≤ S7x1x128.size a := by revert j; decide

/-- The device's own rows of its operand block. -/
def xin (c : Dev nD) : Vec F S512x512 .f32 :=
  xM.view.readAt (Elt F) (Rect.unit (s := S4096x512) (k0_off3 c) S512x512.size (k0_off3_inb c)).toLoadRect (xstg m ρ c)
/-- The rows that came from source `j`. -/
def rin (c : Dev nD) (j : Fin 7) : Vec F S1x512x512 .f32 :=
  rM.view.readAt (Elt F) (Rect.unit (s := S7x512x512) ![j.val, 0, 0] S1x512x512.size (inb_r j)).toLoadRect (rBuf m ρ c)
/-- The weight rows of step `k`, from the slot they were copied to. -/
def win (c : Dev nD) (k : Fin 8) (s : Fin 2) : Vec F S1x512x2048 .f32 :=
  wbM.view.readAt (Elt F) (Rect.unit (s := S2x512x2048) ![s.val, 0, 0] S1x512x2048.size (inb_wb s)).toLoadRect (wBuf m c k)

/-! ## What is computed -/

/-- The sum of the first `n + 1` products. -/
def acc (c : Dev nD) : ℕ → Vec F S512x2048 .f32
  | 0 => k0_pay1 (xin m ρ c) (win m c 0 0)
  | n + 1 => if h : n < 7 then
      k0_pay2 (rin m ρ c ⟨n, h⟩) (win m c ⟨n + 1, Nat.succ_lt_succ h⟩ ⟨(n + 1) % 2, Nat.mod_lt _ (by decide)⟩) (acc c n)
    else acc c n

/-- The device's rows of the product, bounded below by zero. -/
def rel (c : Dev nD) : Vec F S512x2048 .f32 := k0_pay10 (acc m ρ c 7)
/-- The maximum over the device's rows; -/
def lmax (c : Dev nD) : F .f32 := k0_pay11 (rel m ρ c)
/-- that maximum in every lane of the vector the device sends. -/
def amaxV (c : Dev nD) : (cc0_scratch2 : Ref sig .tc).ty.Contents (Elt F) := (k0_pay12 (rel m ρ c) : Vec F S1x128 .f32)
/-- The landing buffer for maxima once all have landed: slot `j` holds source `j`'s vector. -/
def aBuf (c : Dev nD) : (cc0_scratch3 : Ref sig .tc).ty.Contents (Elt F) := aLand (amaxV m ρ) c
/-- The first lane of the vector from source `j`. -/
def ain (c : Dev nD) (j : Fin 7) : Vec F S1x1x1 .f32 :=
  arM.view.readAt (Elt F) (Rect.unit (s := S7x1x128) ![j.val, 0, 0] S1x1x1.size (inb_am j)).toLoadRect (aBuf m ρ c)
/-- The maximum over all devices; -/
def gmax (c : Dev nD) : F .f32 :=
  k0_pay15 (k0_pay14 (k0_pay13 (lmax m ρ c) (ain m ρ c 0)) (ain m ρ c 1) (ain m ρ c 2) (ain m ρ c 3)) (ain m ρ c 4) (ain m ρ c 5) (ain m ρ c 6)
/-- and the kernel's result on device `c`. -/
def outAt (c : Dev nD) : (cc0_stg1_0 : Ref sig .tc).ty.Contents (Elt F) := (k0_pay16 (gmax m ρ c) (rel m ρ c) : Vec F S512x2048 .f32)

/-- A slot for maxima of the `j`-th peer, once all have landed, reads as the vector that was sent to it. -/
theorem read_aSlot (c : Dev nD) (j : Fin 7) :
    (aSlot j).view.read (Elt F) (aBuf m ρ (peer c j)) = asM.view.read (Elt F) (amaxV m ρ c) :=
  read_aLand (amaxV m ρ) c j

end Cert.KernelIdealProof
-- ==== Proof.Schedule.lean ====
/-
The kernel's protocol as a schedule of rounds: who pays each semaphore, how much, in which round, and what the payment
hands over (see `Blocks` for the words).
-/
module

public import proofs.«01_k».proof.Proof.Values

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Points-tos of the blocks and slots -/

def xPts (c : Dev nD) (j : Fin 7) : sProp 𝕄 :=
  (xBlk c j).view.loc (c : Thread nD τ) ↦[(xBlk c j).view.set]{fullShare} xstg m ρ c
def rPts (c : Dev nD) (j : Fin 7) (f : Buf (Elt F) ((c : Thread nD τ).loc cc0_scratch1)) : sProp 𝕄 :=
  (rSlot j).view.loc (c : Thread nD τ) ↦[(rSlot j).view.set]{fullShare} f
def aPts (c : Dev nD) (j : Fin 7) (f : Buf (Elt F) ((c : Thread nD τ).loc cc0_scratch3)) : sProp 𝕄 :=
  (aSlot j).view.loc (c : Thread nD τ) ↦[(aSlot j).view.set]{fullShare} f
def wbPts (c : Dev nD) (s : Fin 2) (f : Buf (Elt F) ((c : Thread nD τ).loc cc0_scratch0)) : sProp 𝕄 :=
  (wSlot s).view.loc (c : Thread nD τ) ↦[(wSlot s).view.set]{fullShare} f
def wPts (c : Dev nD) (k : Fin 8) : sProp 𝕄 :=
  (wRow c k).view.loc (c : Thread nD τ) ↦[(wRow c k).view.set]{fullShare} wmem m c
/-- The share of the vector of maxima that goes with transfer `j`. -/
def asPts (c : Dev nD) (j : Fin 7) : sProp 𝕄 :=
  asM.view.loc (c : Thread nD τ) ↦[asM.view.set]{Transfers.dealOf fullShare Finset.univ j} amaxV m ρ c

omit [FloatOps F] in
instance xPts_storable (c : Dev nD) (j : Fin 7) : BI.Storable (upEmb : UEmb _ 𝕄) (xPts (F := F) m ρ c j) := by unfold xPts; infer_instance
omit [FloatOps F] in
instance rPts_storable (c : Dev nD) (j : Fin 7) (f) : BI.Storable (upEmb : UEmb _ 𝕄) (rPts (F := F) c j f) := by unfold rPts; infer_instance
omit [FloatOps F] in
instance aPts_storable (c : Dev nD) (j : Fin 7) (f) : BI.Storable (upEmb : UEmb _ 𝕄) (aPts (F := F) c j f) := by unfold aPts; infer_instance
omit [FloatOps F] in
instance wbPts_storable (c : Dev nD) (s : Fin 2) (f) : BI.Storable (upEmb : UEmb _ 𝕄) (wbPts (F := F) c s f) := by unfold wbPts; infer_instance
omit [FloatOps F] in
instance wPts_storable (c : Dev nD) (k : Fin 8) : BI.Storable (upEmb : UEmb _ 𝕄) (wPts (F := F) m c k) := by unfold wPts; infer_instance
instance asPts_storable (c : Dev nD) (j : Fin 7) : BI.Storable (upEmb : UEmb _ 𝕄) (asPts (F := F) m ρ c j) := by unfold asPts; infer_instance

/-! ## The schedule -/

/-- What a DMA semaphore is for. -/
inductive Kd where
  | stage | w (s : Fin 2) | snd (j : Fin 7) | rcv (j : Fin 7) | asnd (j : Fin 7) | arcv (j : Fin 7)
  deriving DecidableEq

/-- The kind of the semaphore of a given number. -/
def dec (n : ℕ) : Kd :=
  if h : n < 2 then .stage else if h : n < 4 then .w ⟨n - 2, by omega⟩ else if h : n < 11 then .snd ⟨n - 4, by omega⟩
  else if h : n < 18 then .rcv ⟨n - 11, by omega⟩ else if h : n < 25 then .asnd ⟨n - 18, by omega⟩
  else if h : n < 32 then .arcv ⟨n - 25, by omega⟩ else .stage

theorem dec_w (s : Fin 2) : dec (wS s).val = .w s := by revert s; decide
theorem dec_snd (j : Fin 7) : dec (sndS j).val = .snd j := by revert j; decide
theorem dec_rcv (j : Fin 7) : dec (rcvS j).val = .rcv j := by revert j; decide
theorem dec_asnd (j : Fin 7) : dec (asndS j).val = .asnd j := by revert j; decide
theorem dec_arcv (j : Fin 7) : dec (arcvS j).val = .arcv j := by revert j; decide

/-- The units a payment on a semaphore of a given kind makes. -/
def kAmount : Kd → ℕ
  | .stage => 1 | .w _ => Nw | .snd _ => Nx | .rcv _ => Nx | .asnd _ => Na | .arcv _ => Na

/-- The rounds of a semaphore of a given kind: four of a weight semaphore, one of the others. -/
def kRounds : Kd → ℕ
  | .stage => 0 | .w _ => 4 | .snd _ => 1 | .rcv _ => 1 | .asnd _ => 1 | .arcv _ => 1

/-- What the unit from peer `d` hands device `c`: the peer's landing slots `d`. -/
def barPay (c : Dev nD) (d : Fin 7) : sProp 𝕄 := iprop((∃ f, rPts (peer c d) d f) ∗ (∃ f, aPts (peer c d) d f))

/-- The step whose weights round `r` of weight semaphore `s` is for. -/
def wStep (s : Fin 2) (r : ℕ) : Fin 8 := ⟨(2 * r + s.val) % 8, Nat.mod_lt _ (by decide)⟩

/-- What a payment on a semaphore of a given kind of device `c` hands over. -/
def kPay (c : Dev nD) (r : ℕ) : Kd → sProp 𝕄
  | .stage => iprop(emp)
  | .w s => iprop(wbPts c s (wBuf m c (wStep s r)) ∗ wPts m c (wStep s r))
  | .snd j => xPts m ρ c j
  | .rcv j => rPts c j (rBuf m ρ c)
  | .asnd j => asPts m ρ c j
  | .arcv j => aPts c j (aBuf m ρ c)

instance kPay_storable (c : Dev nD) (r : ℕ) (k : Kd) : BI.Storable (upEmb : UEmb _ 𝕄) (kPay (F := F) m ρ c r k) := by
  cases k <;> (unfold kPay; infer_instance)
omit [FloatOps F] in
instance barPay_storable (c : Dev nD) (d : Fin 7) : BI.Storable (upEmb : UEmb _ 𝕄) (barPay (F := F) c d) := by unfold barPay; infer_instance

theorem kAmount_pos (k : Kd) : 0 < kAmount k := by
  match k with
  | .stage => exact Nat.one_pos
  | .w _ => exact Nw_pos
  | .snd _ => exact Nx_pos
  | .rcv _ => exact Nx_pos
  | .asnd _ => exact Na_pos
  | .arcv _ => exact Na_pos

def semDuties (r : ℕ) : SemLoc sig → Finset (Fin 7)
  | .reg s => if s = barS ∧ r = 0 then Finset.univ else ∅
  | .dma q => if r < kRounds (dec q.val) then {0} else ∅
def semAmount : SemLoc sig → ℕ
  | .reg _ => 1
  | .dma q => kAmount (dec q.val)
def semPay (c : Dev nD) (r : ℕ) (d : Fin 7) : SemLoc sig → sProp 𝕄
  | .reg _ => barPay c d
  | .dma q => kPay m ρ c r (dec q.val)

/-- The schedule of every semaphore of every device. -/
def Sched : Rounds.Schedule (GSem nD τ sig) (Fin 7) 𝕄 where
  duties g r := if g.1.2 = .tc then semDuties r g.2 else ∅
  unitless _ := False
  amount g _ _ := semAmount g.2
  payload g r d := semPay m ρ g.1.1 r d g.2
  amount_pos g r d _ := by
    match g with
    | (_, .reg _) => exact Nat.one_pos
    | (_, .dma _) => exact kAmount_pos _

instance Sched_payload_storable (g : GSem nD τ sig) (r : ℕ) (d : Fin 7) :
    BI.Storable (upEmb : UEmb _ 𝕄) ((Sched (F := F) m ρ).payload g r d) := by
  match g with
  | (_, .reg _) => exact barPay_storable _ _
  | (_, .dma _) => exact kPay_storable _ _ _ _ _

section Facts
variable (c : Dev nD)

theorem duties_bar : (Sched (F := F) m ρ).duties (barC c) 0 = Finset.univ := rfl

theorem duties_dma (q : DmaSem sig) (r : ℕ) (hr : r < kRounds (dec q.val)) :
    (Sched (F := F) m ρ).duties ((c : Thread nD τ), .dma q) r = {0} := if_pos hr

theorem mem_duties_dma (q : DmaSem sig) (r : ℕ) (hr : r < kRounds (dec q.val)) :
    (0 : Fin 7) ∈ (Sched (F := F) m ρ).duties ((c : Thread nD τ), .dma q) r := by
  rw [duties_dma m ρ c q r hr]; exact Finset.mem_singleton_self _

theorem expect_bar : (Sched (F := F) m ρ).expect (barC c) 0 = 7 := by
  unfold Schedule.expect Schedule.amountOf
  rw [duties_bar, Finset.sum_congr rfl fun d _ => (rfl : (Sched (F := F) m ρ).amount (barC c) 0 d = 1)]
  rfl

theorem expect_dma (q : DmaSem sig) (r : ℕ) (hr : r < kRounds (dec q.val)) :
    (Sched (F := F) m ρ).expect ((c : Thread nD τ), .dma q) r = kAmount (dec q.val) := by
  unfold Schedule.expect Schedule.amountOf
  rw [duties_dma m ρ c q r hr, Finset.sum_singleton]
  rfl

theorem rest_bar : bigSep ((Sched (F := F) m ρ).duties (barC c) 0 \ ∅) (fun d => (Sched (F := F) m ρ).payload (barC c) 0 d)
    = bigSep Finset.univ fun d => barPay (F := F) c d := by
  rw [Finset.sdiff_empty, duties_bar]; rfl

theorem rest_dma (q : DmaSem sig) (r : ℕ) (hr : r < kRounds (dec q.val)) :
    bigSep ((Sched (F := F) m ρ).duties ((c : Thread nD τ), .dma q) r \ ∅) (fun d => (Sched (F := F) m ρ).payload ((c : Thread nD τ), .dma q) r d)
      = kPay m ρ c r (dec q.val) := by
  rw [Finset.sdiff_empty, duties_dma m ρ c q r hr, bigSep_singleton]; rfl

/-- No duty of a barrier semaphore after its round, -/
theorem later_bar : ∀ r, 1 ≤ r → (Sched (F := F) m ρ).duties (barC c) r = ∅ := fun r hr =>
  if_neg fun h => by have := h.2; omega
/-- nor of a DMA semaphore after its rounds. -/
theorem later_dma (q : DmaSem sig) : ∀ r, kRounds (dec q.val) ≤ r → (Sched (F := F) m ρ).duties ((c : Thread nD τ), .dma q) r = ∅ :=
  fun r hr => if_neg (Nat.not_lt.mpr hr)

end Facts

end Cert.KernelIdealProof
-- ==== Proof.Owes.lean ====
/-
What a device owes the others, the order of the semaphores in which it may wait, and the facts every step uses.
-/
module

public import proofs.«01_k».proof.Proof.Schedule

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is owed -/

/-- What device `c` owes once it has made its first `a` signals, `b` transfers of rows and `d` transfers of maxima. -/
def owed (c : Dev nD) (a b d : ℕ) : CellTallies nD τ sig Unit :=
  (∑ j ∈ rangeSet 7 a 7, tallyAt (barC (peer c j)) () 1)
    + ((∑ j ∈ rangeSet 7 b 7, tallyAt (rcvC (peer c j) j) () Nx) + ∑ j ∈ rangeSet 7 d 7, tallyAt (arcvC (peer c j) j) () Na)

theorem owed_bar (c : Dev nD) (j : Fin 7) (b d : ℕ) :
    owed c j.val b d = owed c (j.val + 1) b d + tallyAt (barC (peer c j)) () 1 := by
  unfold owed
  rw [Ring.rangeSet_head j.isLt j.isLt, Finset.sum_insert (Ring.head_not_mem_rangeSet j.isLt), add_comm (tallyAt _ _ _), add_right_comm]

theorem owed_rcv (c : Dev nD) (j : Fin 7) (a d : ℕ) :
    owed c a j.val d = owed c a (j.val + 1) d + tallyAt (rcvC (peer c j) j) () Nx := by
  unfold owed
  rw [Ring.rangeSet_head j.isLt j.isLt, Finset.sum_insert (Ring.head_not_mem_rangeSet j.isLt), add_comm (tallyAt _ _ _), add_right_comm, ← add_assoc]

theorem owed_arcv (c : Dev nD) (j : Fin 7) (a b : ℕ) :
    owed c a b j.val = owed c a b (j.val + 1) + tallyAt (arcvC (peer c j) j) () Na := by
  unfold owed
  rw [Ring.rangeSet_head j.isLt j.isLt, Finset.sum_insert (Ring.head_not_mem_rangeSet j.isLt), add_comm (tallyAt _ _ _), ← add_assoc, ← add_assoc, add_assoc (∑ j ∈ _, _)]

theorem owed_end (c : Dev nD) : owed c 7 7 7 = 0 := by
  unfold owed
  rw [Ring.rangeSet_empty (le_refl 7), Finset.sum_empty, Finset.sum_empty, Finset.sum_empty, add_zero, add_zero]

/-- A sum of amounts is positive at a cell only if some summand is there. -/
theorem sum_tally_pos {S : Finset (Fin 7)} {cell : Fin 7 → GSem nD τ sig} {n : ℕ} {g : GSem nD τ sig} {u : Unit}
    (h : 0 < (∑ j ∈ S, tallyAt (cell j) () n : CellTallies nD τ sig Unit) g u) : ∃ j ∈ S, g = cell j := by
  rw [Finset.sum_apply, Finsupp.finset_sum_apply] at h
  obtain ⟨j, hj, hne⟩ := Finset.exists_ne_zero_of_sum_ne_zero (Nat.pos_iff_ne_zero.mp h)
  refine ⟨j, hj, ?_⟩
  rw [tallyAt_apply] at hne
  by_contra hn
  exact hne (if_neg fun h' => hn h'.1)

theorem owed_pos {c : Dev nD} {a b d : ℕ} {g : GSem nD τ sig} {u : Unit} (h : 0 < owed c a b d g u) :
    (a < 7 ∧ ∃ j, g = barC (peer c j)) ∨ (b < 7 ∧ ∃ j, g = rcvC (peer c j) j) ∨ (d < 7 ∧ ∃ j, g = arcvC (peer c j) j) := by
  unfold owed at h
  rw [Pi.add_apply, Finsupp.add_apply, Pi.add_apply, Finsupp.add_apply] at h
  have lt : ∀ {x : ℕ} {j : Fin 7}, j ∈ rangeSet 7 x 7 → x < 7 := fun hj => by
    have := (Ring.mem_rangeSet _ _ _).mp hj; omega
  rcases Nat.add_pos_iff_pos_or_pos.mp h with h | h
  · obtain ⟨j, hj, he⟩ := sum_tally_pos h; exact .inl ⟨lt hj, j, he⟩
  rcases Nat.add_pos_iff_pos_or_pos.mp h with h | h
  · obtain ⟨j, hj, he⟩ := sum_tally_pos h; exact .inr (.inl ⟨lt hj, j, he⟩)
  · obtain ⟨j, hj, he⟩ := sum_tally_pos h; exact .inr (.inr ⟨lt hj, j, he⟩)

/-! ## Levels: barrier 1, receive 2, maximum receive 3, everything else 0 -/

def L (g : GSem nD τ sig) : Finset Unit := if g.1.2 = .tc then {()} else ∅
/-- The level of a DMA semaphore of a given kind. -/
def kLevel : Kd → ℕ
  | .rcv _ => 2 | .arcv _ => 3 | _ => 0
def semLevel : SemLoc sig → ℕ
  | .reg _ => 1
  | .dma q => kLevel (dec q.val)
def lv (g : GSem nD τ sig) (_ : Unit) : ℕ := semLevel g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a semaphore below everything it still owes. -/
theorem mayWait (c : Dev nD) (sm : SemLoc sig) (a b d : ℕ) (ha : a < 7 → semLevel sm < 1) (hb : b < 7 → semLevel sm < 2) (hd : d < 7 → semLevel sm < 3) :
    (levAts L lv : sProp 𝕄) ⊢ MayWait (c : Thread nD τ) sm () (owed c a b d) :=
  MayOwe.of_cut (L := L) (lev := lv) (semLevel sm) (fun p hp => by rw [Finset.mem_singleton.mp hp, L_tc]; exact Finset.mem_singleton_self _)
    (fun g u hg => by
      rcases owed_pos hg with ⟨_, j, rfl⟩ | ⟨_, j, rfl⟩ | ⟨_, j, rfl⟩ <;> exact Finset.mem_singleton_self _)
    (fun p hp => by rw [Finset.mem_singleton.mp hp]; exact le_refl _)
    (fun g u hg => by
      rcases owed_pos hg with ⟨h, j, rfl⟩ | ⟨h, j, rfl⟩ | ⟨h, j, rfl⟩
      · exact ha h
      · refine lt_of_lt_of_eq (hb h) ?_; show 2 = kLevel (dec (rcvS j).val); rw [dec_rcv]; rfl
      · refine lt_of_lt_of_eq (hd h) ?_; show 3 = kLevel (dec (arcvS j).val); rw [dec_arcv]; rfl)

/-- What device `c` owes, whatever it has waited for. -/
def ow (c : Dev nD) (O : CellTallies nD τ sig Unit) : sProp 𝕄 := iprop(∃ W, owes (c : Thread nD τ) O W)

/-! ## The cells and the facts about them -/

set_option backward.proofsInPublic true in
/-- The kernel's semaphores: the barrier, then the thirty DMA semaphores it declares. -/
def csem (k : Fin 31) : SemLoc sig := if k.val = 0 then .reg barS else .dma (⟨k.val + 1, by have := k.isLt; omega⟩ : Fin 32)

abbrev kcell (ck : Dev nD × Fin 31) : GSem nD τ sig := ((ck.1 : Thread nD τ), csem ck.2)

theorem csem_dma (q : DmaSem sig) (hq : 2 ≤ q.val) : csem ⟨q.val - 1, by have h : q.val < 32 := q.isLt; omega⟩ = .dma q := by
  unfold csem
  rw [if_neg (by dsimp only; omega)]
  exact congrArg SemLoc.dma (Fin.ext (by dsimp only; omega))

/-- Every cell's invariant, that every cell's round 0 is reached, and the levels. -/
def facts : sProp 𝕄 := iprop((bigSep Finset.univ fun ck : Dev nD × Fin 31 =>
    iprop(∃ κ, cellInv ER (Sched m ρ) κ (kcell ck) ∗ reached ER (kcell ck) 0)) ∗ levAts L lv)

instance facts_persistent : BI.Persistent (facts (F := F) m ρ) := by unfold facts; infer_instance

theorem facts_cell (ck : Dev nD × Fin 31) : facts m ρ ⊢ (iprop(∃ κ, cellInv ER (Sched m ρ) κ (kcell ck) ∗ reached ER (kcell ck) 0) : sProp 𝕄) := by
  unfold facts
  exact sep_elim_left.trans (BI.bigSep_elim (Finset.mem_univ ck))

theorem facts_bar (c : Dev nD) : facts m ρ ⊢ (iprop(∃ κ, cellInv ER (Sched m ρ) κ (barC c) ∗ reached ER (barC c) 0) : sProp 𝕄) :=
  facts_cell m ρ (c, 0)

theorem facts_dma (c : Dev nD) (q : DmaSem sig) (hq : 2 ≤ q.val) :
    facts m ρ ⊢ (iprop(∃ κ, cellInv ER (Sched m ρ) κ ((c : Thread nD τ), .dma q) ∗ reached ER ((c : Thread nD τ), .dma q) 0) : sProp 𝕄) := by
  have h := facts_cell m ρ (c, ⟨q.val - 1, by have h : q.val < 32 := q.isLt; omega⟩)
  unfold kcell at h
  rwa [csem_dma q hq] at h

theorem facts_lev : facts m ρ ⊢ (levAts L lv : sProp 𝕄) := by
  unfold facts
  exact sep_elim_right

end Cert.KernelIdealProof
-- ==== Proof.Steps.lean ====
/-
One lemma per kind of step of the kernel's protocol, each for any number of the step: what it takes, what it leaves.
-/
module

public import proofs.«01_k».proof.Proof.Owes

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that is over. -/
theorem run_ret (c : Dev nD) {α : Type} (a : α) (Q : α → sProp 𝕄) : Q a ⊢ run c (.ret a) Q := by
  unfold run
  rw [wp_ret]
  exact fupd_intro

/-! ## Lists of steps -/

/-- What is held for the steps still to make, the first taken out; -/
theorem todo_head {N : ℕ} (Φ : Fin N → sProp 𝕄) (j : Fin N) :
    bigSep (rangeSet N j.val N) Φ = iprop(Φ j ∗ bigSep (rangeSet N (j.val + 1) N) Φ) :=
  Ring.bigSep_rangeSet_head j.isLt j.isLt
/-- what is held for the steps made, one more put in. -/
theorem done_last {N : ℕ} (Φ : Fin N → sProp 𝕄) (j : Fin N) :
    bigSep (rangeSet N 0 (j.val + 1)) Φ = iprop(Φ j ∗ bigSep (rangeSet N 0 j.val) Φ) :=
  Ring.bigSep_rangeSet_last (Nat.succ_pos _) j.isLt

/-! ## Signals -/

/-- For signal `j`: its duty at the peer's barrier, and the landing slots it gives away. -/
def sigItem (c : Dev nD) (j : Fin 7) : sProp 𝕄 :=
  iprop(dutyTok ER (barC (peer c j)) 0 j.rev ∗ (∃ f, rPts c j.rev f) ∗ (∃ f, aPts c j.rev f))
def sigTodo (c : Dev nD) (n : ℕ) : sProp 𝕄 := bigSep (rangeSet 7 n 7) fun j => sigItem (F := F) c j

/-- The slots `c` gives away are what peer `j` is to get from it. -/
theorem give_slots (c : Dev nD) (j : Fin 7) :
    iprop((∃ f, rPts (F := F) c j.rev f) ∗ (∃ f, aPts c j.rev f)) ⊢ (Sched m ρ).payload (barC (peer c j)) 0 j.rev := by
  show _ ⊢ barPay (peer c j) j.rev
  unfold barPay
  rw [peer_peer_rev]

/-- Signal `j`, to peer `j`. -/
theorem step_signal {α : Type} {Q : α → sProp 𝕄} {k : PUnit → Prog (TpuEff nD τ sig (Elt F) Λ₀ .tc) α} (c : Dev nD) (j : Fin 7) (n : ℕ) (hj : j.val = n) (t : Dev nD) (ht : t = peer c j) (z : ℤ) (hz : z = ((1 : ℕ) : ℤ)) :
    iprop(facts m ρ ∗ sigTodo c n ∗ ow c (owed c n 0 0))
      ⊢ iprop((sigTodo c (n + 1) ∗ ow c (owed c (n + 1) 0 0) -∗ run c (k ⟨⟩) Q)
        -∗ run c (.op (.semSignal (t : Thread nD τ) barS z) k) Q) := by
  subst ht hz hj
  unfold sigTodo
  rw [todo_head]
  unfold sigItem ow
  iintro ⟨#HF, ⟨⟨Htok, Hr, Ha⟩, Hrest⟩, ⟨%W, HO⟩⟩ Hk
  ihave HB := facts_bar m ρ (peer c j) $$ HF
  icases HB with ⟨%κ, #HI, #HR⟩
  iapply (Rounds.wp_signal 𝒱₀ ER (Sched m ρ) (c : Thread nD τ) none (dst := (peer c j : Thread nD τ)) (sem := barS) (κ := κ) (r := 0)
      (d := j.rev) (by rw [duties_bar]; exact Finset.mem_univ _) (k' := 1) rfl () (owed c (j.val + 1) 0 0) (owed_bar c j 0 0)) $$ [HO Htok Hr Ha]
  · isplitr; · iexact HI
    isplitl [HO]; · iexact HO
    isplitl [Htok]; · iexact Htok
    isplitl [Hr Ha]
    · iapply (give_slots m ρ c j)
      isplitl [Hr] <;> iassumption
    iexact HR
  iintro HO
  iapply Hk
  isplitl [Hrest]; · iexact Hrest
  iexists W
  iexact HO

/-! ## Waits -/

/-- The barrier: every peer's landing slots come in. -/
theorem step_barrier {α : Type} {Q : α → sProp 𝕄} {k : PUnit → Prog (TpuEff nD τ sig (Elt F) Λ₀ .tc) α} (c : Dev nD) (n : ℤ) (hn : n = ((7 : ℕ) : ℤ)) :
    iprop(facts m ρ ∗ cred (tallyAt (barC c) () 7) ∗ atPos ER (barC c) 0 ∅ 0 ∗ ow c (owed c 7 0 0))
      ⊢ iprop((atPos ER (barC c) 1 ∅ 0 ∗ ow c (owed c 7 0 0) ∗ (bigSep Finset.univ fun d => barPay c d) -∗ run c (k ⟨⟩) Q)
        -∗ run c (.op (.semWait barS n) k) Q) := by
  subst hn
  unfold ow
  iintro ⟨#HF, Hc, Hat, ⟨%W, HO⟩⟩ Hk
  ihave HB := facts_bar m ρ c $$ HF
  icases HB with ⟨%κ, #HI, #HR⟩
  iapply (Rounds.wp_wait_rest_token 𝒱₀ ER (Sched m ρ) (c : Thread nD τ) none (κ := κ)
      (wpE_semWait_eq 𝒱₀ (c : Thread nD τ) none Set.univ) (Set.mem_univ _) () (O := owed c 7 0 0) (W := W) (R := 0) (m := 0) (T := ∅)
      (by rw [expect_bar])) $$ [Hc HO Hat]
  · isplitr; · iexact HI
    isplitl [Hc]; · iexact Hc
    isplitl [HO]; · iexact HO
    isplitr
    · iapply (mayWait c (.reg barS) 7 0 0 (fun h => absurd h (Nat.lt_irrefl 7)) (fun _ => by show 1 < 2; decide) (fun _ => by show 1 < 3; decide))
      iapply (facts_lev m ρ); iexact HF
    iexact Hat
  iintro ⟨HO, Hat, -, Hpay⟩
  ihave Hp := (Entails.of_eq (rest_bar m ρ c)) $$ Hpay
  iapply Hk
  isplitl [Hat]; · iexact Hat
  isplitl [HO]; · iexists _; iexact HO
  iexact Hp

/-- Waiting out round `r` of a DMA semaphore: what its payment hands over comes in. -/
theorem step_wait {α : Type} {Q : α → sProp 𝕄} {k : PUnit → Prog (TpuEff nD τ sig (Elt F) Λ₀ .tc) α} {sp sp' : Space} {s s' : Shape} {e e' : EltTy} {κ' : Kind} (c : Dev nD) (q : DmaSem sig) (hq : 2 ≤ q.val) (kd : Kd) (hkd : dec q.val = kd) (r : ℕ)
    (hr : r < kRounds kd) (N : ℕ) (hN : kAmount kd = N) (a b d : ℕ)
    (ha : a < 7 → kLevel kd < 1) (hb : b < 7 → kLevel kd < 2) (hd : d < 7 → kLevel kd < 3)
    {src : Memref sig .tc sp' s' e'} {dst : Memref sig κ' sp s e} {hsrc : src.view.WordExact} {hdst : dst.view.WordExact}
    (hdN : dst.view.dmaCredit = N) :
    iprop(facts m ρ ∗ cred (tallyAt ((c : Thread nD τ), .dma q) () N) ∗ atPos ER ((c : Thread nD τ), .dma q) r ∅ 0 ∗ ow c (owed c a b d))
      ⊢ iprop((atPos ER ((c : Thread nD τ), .dma q) (r + 1) ∅ 0 ∗ reached ER ((c : Thread nD τ), .dma q) (r + 1) ∗ ow c (owed c a b d)
            ∗ kPay m ρ c r kd -∗ run c (k ⟨⟩) Q)
        -∗ run c (.op (.waitDma2 q src dst hsrc hdst) k) Q) := by
  subst hkd hdN
  unfold ow
  iintro ⟨#HF, Hc, Hat, ⟨%W, HO⟩⟩ Hk
  ihave HB := facts_dma m ρ c q hq $$ HF
  icases HB with ⟨%κ, #HI, #HR⟩
  iapply (Rounds.wp_wait_rest_token 𝒱₀ ER (Sched m ρ) (c : Thread nD τ) none (κ := κ)
      (wpE_waitDma2_eq 𝒱₀ (c : Thread nD τ) none Set.univ) (Set.mem_univ _) () (O := owed c a b d) (W := W) (R := r) (m := 0) (T := ∅)
      (by rw [Nat.zero_add, expect_dma m ρ c q r hr, hN])) $$ [Hc HO Hat]
  · isplitr; · iexact HI
    isplitl [Hc]; · iexact Hc
    isplitl [HO]; · iexact HO
    isplitr
    · iapply (mayWait c (.dma q) a b d ha hb hd)
      iapply (facts_lev m ρ); iexact HF
    iexact Hat
  iintro ⟨HO, Hat, Hre, Hpay⟩
  ihave Hp := (Entails.of_eq (rest_dma m ρ c q r hr)) $$ Hpay
  iapply Hk
  isplitl [Hat]; · iexact Hat
  isplitl [Hre]; · iexact Hre
  isplitl [HO]; · iexists _; iexact HO
  iexact Hp

/-! ## Transfers of rows -/

/-- For transfer `j` of rows: its two duties, the rows, the peer's slot. -/
def sndItem (c : Dev nD) (j : Fin 7) : sProp 𝕄 :=
  iprop(dutyTok ER (sndC c j) 0 (0 : Fin 7) ∗ dutyTok ER (rcvC (peer c j) j) 0 (0 : Fin 7) ∗ xPts m ρ c j ∗ (∃ f, rPts (peer c j) j f))
def sndTodo (c : Dev nD) (n : ℕ) : sProp 𝕄 := bigSep (rangeSet 7 n 7) fun j => sndItem m ρ c j
/-- The credits of the transfers made. -/
def sndCred (c : Dev nD) (n : ℕ) : sProp 𝕄 := bigSep (rangeSet 7 0 n) fun j => cred (tallyAt (sndC c j) () Nx)

omit [FloatOps F] in
/-- What lands in a slot is what the slot is to hold. -/
theorem land_x (c : Dev nD) (j : Fin 7) (fd : Buf (Elt F) ((peer c j : Thread nD τ).loc cc0_scratch1)) :
    ((rSlot j).view.loc (peer c j : Thread nD τ) ↦[(rSlot j).view.set]{fullShare}
        (rSlot j).view.write (Elt F) fd ((xBlk c j).view.read (Elt F) (xstg m ρ c)) Finset.univ)
      ⊢ rPts (peer c j) j (rBuf m ρ (peer c j)) := by
  unfold rPts
  rw [← read_rSlot m ρ c j, View.write_read_eq_piecewise]
  exact Entails.of_eq (pointsTo_congr fun i hi => Finset.piecewise_eq_of_mem _ _ _ hi)

/-- Transfer `j` of rows, to peer `j`. -/
theorem step_send {α : Type} {Q : α → sProp 𝕄} {k : PUnit → Prog (TpuEff nD τ sig (Elt F) Λ₀ .tc) α} (c : Dev nD) (j : Fin 7) (n : ℕ) (hj : j.val = n) (t : Dev nD) (ht : t = peer c j)
    {hsc : (rSlot j : Memref sig (Dev.tc t : Thread nD τ).2.kind .vmem S512x512 .f32).view.ref.isScScratch = false}
    {hsrc : (xBlk c j).view.WordExact} {hdst : (rSlot j).view.WordExact}
    {hsem : DmaTarget.Typed .vmem (.dma (rcvS j)) (.remote (Dev.tc t : Thread nD τ) (rSlot j : Memref sig (Dev.tc t : Thread nD τ).2.kind .vmem S512x512 .f32) (.dma (sndS j)) hsc)} :
    iprop(facts m ρ ∗ sndTodo m ρ c n ∗ sndCred c n ∗ ow c (owed c 7 n 0))
      ⊢ iprop((sndTodo m ρ c (n + 1) ∗ sndCred c (n + 1) ∗ ow c (owed c 7 (n + 1) 0) -∗ run c (k ⟨⟩) Q)
        -∗ run c (.op (.enqueueDma (xBlk c j) (.remote (Dev.tc t : Thread nD τ) (rSlot j) (.dma (sndS j)) hsc) (.dma (rcvS j)) hsrc hdst hsem) k) Q) := by
  subst hj
  subst ht
  unfold sndTodo sndCred
  rw [todo_head, done_last]
  unfold sndItem ow
  iintro ⟨#HF, ⟨⟨Ht1, Ht2, Hx, ⟨%fd, Hr⟩⟩, Hrest⟩, Hcs, ⟨%W, HO⟩⟩ Hk
  ihave HB1 := facts_dma m ρ c (sndS j) (by rw [sndS_val]; omega) $$ HF
  icases HB1 with ⟨%κ₁, #HI1, #HR1⟩
  ihave HB2 := facts_dma m ρ (peer c j) (rcvS j) (by rw [rcvS_val]; omega) $$ HF
  icases HB2 with ⟨%κ₂, #HI2, #HR2⟩
  iapply (Rounds.wp_send_pointsTo 𝒱₀ ER (Sched m ρ) (c : Thread nD τ) none (κ₁ := κ₁) (κ₂ := κ₂)
    (q := fullShare) (fs := xstg m ρ c) (r₁ := 0) (r₂ := 0) (d₁ := 0) (d₂ := 0) (fd := fd)
    (mem_duties_dma m ρ c (sndS j) 0 (by rw [dec_snd]; exact Nat.one_pos)) (mem_duties_dma m ρ (peer c j) (rcvS j) 0 (by rw [dec_rcv]; exact Nat.one_pos))
    () () Nx (credit_rSlot j) (by show kAmount (dec (sndS j).val) = Nx; rw [dec_snd]; rfl) (by show kAmount (dec (rcvS j).val) = Nx; rw [dec_rcv]; rfl)
    (owed c 7 (j.val + 1) 0) (owed_rcv c j 7 0) (W := W)
    (by show _ ⊢ kPay m ρ c 0 (dec (sndS j).val); rw [dec_snd]; exact BI.Entails.refl _)
    (by show _ ⊢ kPay m ρ (peer c j) 0 (dec (rcvS j).val); rw [dec_rcv]; exact land_x m ρ c j fd)) $$ [Hx Hr HO Ht1 Ht2]
  · isplitr; · iexact HI1
    isplitr; · iexact HI2
    isplitl [Hx]; · unfold xPts; iexact Hx
    isplitl [Hr]; · unfold rPts; iexact Hr
    isplitl [HO]; · iexact HO
    isplitl [Ht1]; · iexact Ht1
    isplitr; · iexact HR1
    isplitl [Ht2]; · iexact Ht2
    iexact HR2
  iintro ⟨Hc, HO⟩
  iapply Hk
  isplitl [Hrest]; · iexact Hrest
  isplitl [Hc Hcs]
  · isplitl [Hc] <;> iassumption
  iexists W
  iexact HO

/-! ## Transfers of maxima -/

/-- For transfer `j` of a maximum: its two duties, the share of the vector, the peer's slot. -/
def asndItem (c : Dev nD) (j : Fin 7) : sProp 𝕄 :=
  iprop(dutyTok ER (asndC c j) 0 (0 : Fin 7) ∗ dutyTok ER (arcvC (peer c j) j) 0 (0 : Fin 7) ∗ asPts m ρ c j ∗ (∃ f, aPts (peer c j) j f))
def asndTodo (c : Dev nD) (n : ℕ) : sProp 𝕄 := bigSep (rangeSet 7 n 7) fun j => asndItem m ρ c j
def asndCred (c : Dev nD) (n : ℕ) : sProp 𝕄 := bigSep (rangeSet 7 0 n) fun j => cred (tallyAt (asndC c j) () Na)

theorem land_a (c : Dev nD) (j : Fin 7) (fd : Buf (Elt F) ((peer c j : Thread nD τ).loc cc0_scratch3)) :
    ((aSlot j).view.loc (peer c j : Thread nD τ) ↦[(aSlot j).view.set]{fullShare}
        (aSlot j).view.write (Elt F) fd (asM.view.read (Elt F) (amaxV m ρ c)) Finset.univ)
      ⊢ aPts (peer c j) j (aBuf m ρ (peer c j)) := by
  unfold aPts
  rw [← read_aSlot m ρ c j, View.write_read_eq_piecewise]
  exact Entails.of_eq (pointsTo_congr fun i hi => Finset.piecewise_eq_of_mem _ _ _ hi)

/-- Transfer `j` of a maximum, to peer `j`. -/
theorem step_asend {α : Type} {Q : α → sProp 𝕄} {k : PUnit → Prog (TpuEff nD τ sig (Elt F) Λ₀ .tc) α} (c : Dev nD) (j : Fin 7) (n : ℕ) (hj : j.val = n) (t : Dev nD) (ht : t = peer c j)
    {hsc : (aSlot j : Memref sig (Dev.tc t : Thread nD τ).2.kind .vmem S1x128 .f32).view.ref.isScScratch = false}
    {hsrc : asM.view.WordExact} {hdst : (aSlot j).view.WordExact}
    {hsem : DmaTarget.Typed .vmem (.dma (arcvS j)) (.remote (Dev.tc t : Thread nD τ) (aSlot j : Memref sig (Dev.tc t : Thread nD τ).2.kind .vmem S1x128 .f32) (.dma (asndS j)) hsc)} :
    iprop(facts m ρ ∗ asndTodo m ρ c n ∗ asndCred c n ∗ ow c (owed c 7 7 n))
      ⊢ iprop((asndTodo m ρ c (n + 1) ∗ asndCred c (n + 1) ∗ ow c (owed c 7 7 (n + 1)) -∗ run c (k ⟨⟩) Q)
        -∗ run c (.op (.enqueueDma asM (.remote (Dev.tc t : Thread nD τ) (aSlot j) (.dma (asndS j)) hsc) (.dma (arcvS j)) hsrc hdst hsem) k) Q) := by
  subst hj
  subst ht
  unfold asndTodo asndCred
  rw [todo_head, done_last]
  unfold asndItem ow
  iintro ⟨#HF, ⟨⟨Ht1, Ht2, Hx, ⟨%fd, Hr⟩⟩, Hrest⟩, Hcs, ⟨%W, HO⟩⟩ Hk
  ihave HB1 := facts_dma m ρ c (asndS j) (by rw [asndS_val]; omega) $$ HF
  icases HB1 with ⟨%κ₁, #HI1, #HR1⟩
  ihave HB2 := facts_dma m ρ (peer c j) (arcvS j) (by rw [arcvS_val]; omega) $$ HF
  icases HB2 with ⟨%κ₂, #HI2, #HR2⟩
  iapply (Rounds.wp_send_pointsTo 𝒱₀ ER (Sched m ρ) (c : Thread nD τ) none (κ₁ := κ₁) (κ₂ := κ₂)
    (q := Transfers.dealOf fullShare Finset.univ j) (fs := amaxV m ρ c) (r₁ := 0) (r₂ := 0) (d₁ := 0) (d₂ := 0) (fd := fd)
    (mem_duties_dma m ρ c (asndS j) 0 (by rw [dec_asnd]; exact Nat.one_pos)) (mem_duties_dma m ρ (peer c j) (arcvS j) 0 (by rw [dec_arcv]; exact Nat.one_pos))
    () () Na (credit_aSlot j) (by show kAmount (dec (asndS j).val) = Na; rw [dec_asnd]; rfl) (by show kAmount (dec (arcvS j).val) = Na; rw [dec_arcv]; rfl)
    (owed c 7 7 (j.val + 1)) (owed_arcv c j 7 7) (W := W)
    (by show _ ⊢ kPay m ρ c 0 (dec (asndS j).val); rw [dec_asnd]; exact BI.Entails.refl _)
    (by show _ ⊢ kPay m ρ (peer c j) 0 (dec (arcvS j).val); rw [dec_arcv]; exact land_a m ρ c j fd)) $$ [Hx Hr HO Ht1 Ht2]
  · isplitr; · iexact HI1
    isplitr; · iexact HI2
    isplitl [Hx]; · unfold asPts; iexact Hx
    isplitl [Hr]; · unfold aPts; iexact Hr
    isplitl [HO]; · iexact HO
    isplitl [Ht1]; · iexact Ht1
    isplitr; · iexact HR1
    isplitl [Ht2]; · iexact Ht2
    iexact HR2
  iintro ⟨Hc, HO⟩
  iapply Hk
  isplitl [Hrest]; · iexact Hrest
  isplitl [Hc Hcs]
  · isplitl [Hc] <;> iassumption
  iexists W
  iexact HO

end Cert.KernelIdealProof
-- ==== Proof.Moves.lean ====
/-
The steps on the device's own memory: the copies of weights, the waits that bring blocks in, the loads and stores.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Copies of weights -/

/-- The weights, whole; -/
def wAll (c : Dev nD) : sProp 𝕄 := wM.view.loc (c : Thread nD τ) ↦{fullShare} wmem m c
/-- the weights but for the rows of step `n`. -/
def wRest (c : Dev nD) (n : Fin 8) : sProp 𝕄 := wM.view.loc (c : Thread nD τ) ↦[Finset.univ \ (wRow c n).view.set]{fullShare} wmem m c
/-- Weight semaphore `s` stands at round `r`. -/
def wAt (c : Dev nD) (s : Fin 2) (r : ℕ) : sProp 𝕄 := iprop(atPos ER (wC c s) r ∅ 0 ∗ reached ER (wC c s) r)
/-- The duties of the copies from step `n` on. -/
def wTodo (c : Dev nD) (n : ℕ) : sProp 𝕄 :=
  bigSep (rangeSet 8 n 8) fun i => dutyTok ER (wC c ⟨i.val % 2, Nat.mod_lt _ (by decide)⟩) (i.val / 2) (0 : Fin 7)

omit [FloatOps F] in
theorem wAll_split (c : Dev nD) (n : Fin 8) : (wAll (F := F) m c) ⊣⊢ iprop(wPts m c n ∗ wRest m c n) := by
  unfold wAll wPts wRest
  exact pointsTo_split_subset (Finset.subset_univ _)

omit [FloatOps F] in
theorem land_w (c : Dev nD) (n : Fin 8) (s : Fin 2) (fd : Buf (Elt F) ((c : Thread nD τ).loc cc0_scratch0)) :
    ((wSlot s).view.loc (c : Thread nD τ) ↦[(wSlot s).view.set]{fullShare}
        (wSlot s).view.write (Elt F) fd ((wRow c n).view.read (Elt F) (wmem m c)) Finset.univ)
      ⊢ wbPts c s (wBuf m c n) := by
  unfold wbPts
  rw [← read_wSlot m c n s, View.write_read_eq_piecewise]
  exact Entails.of_eq (pointsTo_congr fun i hi => Finset.piecewise_eq_of_mem _ _ _ hi)

/-- Starting the copy of step `n`'s weights into slot `s`. -/
theorem step_wstart {α : Type} {Q : α → sProp 𝕄} {k : PUnit → Prog (TpuEff nD τ sig (Elt F) Λ₀ .tc) α}
    (c : Dev nD) (n : Fin 8) (N : ℕ) (hN : n.val = N) (s : Fin 2) (r : ℕ) (hn : n.val = 2 * r + s.val)
    {hsrc : (wRow c n).view.WordExact} {hdst : (wSlot s).view.WordExact} {hsem : DmaTarget.Typed .hbm (.dma (wS s)) (DmaTarget.here (nD := nD) (p := (Proc.tc : Proc τ)) (wSlot s))} :
    iprop(facts m ρ ∗ wTodo c N ∗ wAll m c ∗ (∃ f, wbPts c s f) ∗ wAt c s r)
      ⊢ iprop((wTodo c (N + 1) ∗ wRest m c n ∗ cred (tallyAt (wC c s) () Nw) ∗ wAt c s r -∗ run c (k ⟨⟩) Q)
        -∗ run c (.op (.enqueueDma (wRow c n) (.here (wSlot s)) (.dma (wS s)) hsrc hdst hsem) k) Q) := by
  subst hN
  have hs : (⟨n.val % 2, Nat.mod_lt _ (by decide)⟩ : Fin 2) = s := Fin.ext (by have := s.isLt; dsimp only; omega)
  have hr : n.val / 2 = r := by have := s.isLt; omega
  have hstep : wStep s r = n := Fin.ext (by have := n.isLt; unfold wStep; dsimp only; omega)
  have hlt : r < 4 := by have := n.isLt; omega
  unfold wTodo
  rw [todo_head, hs, hr]
  unfold wAt
  iintro ⟨#HF, ⟨Htok, Hrest⟩, Hw, ⟨%fd, Hb⟩, Hat, #HR⟩ Hk
  ihave HB := facts_dma m ρ c (wS s) (by rw [wS_val]; omega) $$ HF
  icases HB with ⟨%κ, #HI, -⟩
  ihave Hw := (wAll_split m c n).1 $$ Hw
  icases Hw with ⟨Hrow, Hw⟩
  iapply (Rounds.wp_copy_pointsTo 𝒱₀ ER (Sched m ρ) (c : Thread nD τ) none (κ := κ) (q := fullShare) (fs := wmem m c) (fd := fd) (r := r) (d := 0)
    (mem_duties_dma m ρ c (wS s) r (by rw [dec_w]; exact hlt)) () Nw (credit_wSlot s) (by show kAmount (dec (wS s).val) = Nw; rw [dec_w]; rfl)
    (by
      show _ ⊢ kPay m ρ c r (dec (wS s).val)
      rw [dec_w]
      show _ ⊢ iprop(wbPts c s (wBuf m c (wStep s r)) ∗ wPts m c (wStep s r))
      rw [hstep]
      exact sep_mono_left (land_w m c n s fd))) $$ [Hrow Hb Htok]
  · isplitr; · iexact HI
    isplitl [Hrow]; · unfold wPts; iexact Hrow
    isplitl [Hb]; · unfold wbPts; iexact Hb
    isplitl [Htok]; · iexact Htok
    iexact HR
  iintro Hc
  iapply Hk
  isplitl [Hrest]; · iexact Hrest
  isplitl [Hw]; · iexact Hw
  isplitl [Hc]; · iexact Hc
  isplitl [Hat]; · iexact Hat
  iexact HR

/-- Waiting for the copy of step `n`'s weights. -/
theorem step_wwait {α : Type} {Q : α → sProp 𝕄} {k : PUnit → Prog (TpuEff nD τ sig (Elt F) Λ₀ .tc) α}
    (c : Dev nD) (n : Fin 8) (s : Fin 2) (r : ℕ) (hn : n.val = 2 * r + s.val)
    {src : Memref sig .tc .hbm S512x2048 .f32} {hsrc : src.view.WordExact} {hdst : (wSlot s).view.WordExact} :
    iprop(facts m ρ ∗ cred (tallyAt (wC c s) () Nw) ∗ wAt c s r ∗ wRest m c n ∗ ow c (owed c 7 7 0))
      ⊢ iprop((wAll m c ∗ wbPts c s (wBuf m c n) ∗ wAt c s (r + 1) ∗ ow c (owed c 7 7 0) -∗ run c (k ⟨⟩) Q)
        -∗ run c (.op (.waitDma2 (wS s) src (wSlot s) hsrc hdst) k) Q) := by
  have hstep : wStep s r = n := Fin.ext (by have := n.isLt; unfold wStep; dsimp only; omega)
  have hlt : r < 4 := by have := n.isLt; omega
  unfold wAt
  iintro ⟨#HF, Hc, ⟨Hat, -⟩, Hw, HO⟩ Hk
  iapply (step_wait m ρ c (wS s) (by rw [wS_val]; omega) (.w s) (dec_w s) r hlt Nw rfl 7 7 0 (fun h => absurd h (Nat.lt_irrefl 7))
    (fun h => absurd h (Nat.lt_irrefl 7)) (fun _ => by show 0 < 3; decide) (credit_wSlot s)) $$ [Hc Hat HO]
  · isplitr; · iexact HF
    isplitl [Hc]; · iexact Hc
    isplitl [Hat]; · iexact Hat
    iexact HO
  iintro ⟨Hat, HR, HO, Hp⟩
  ihave Hp := (show kPay m ρ c r (.w s) ⊢ iprop(wbPts c s (wBuf m c n) ∗ wPts m c n) from by
    show iprop(wbPts c s (wBuf m c (wStep s r)) ∗ wPts m c (wStep s r)) ⊢ _; rw [hstep]) $$ Hp
  icases Hp with ⟨Hb, Hrow⟩
  iapply Hk
  isplitl [Hw Hrow]
  · iapply (wAll_split m c n).2
    isplitl [Hrow] <;> iassumption
  isplitl [Hb]; · iexact Hb
  isplitl [Hat HR]
  · isplitl [Hat] <;> iassumption
  iexact HO

/-! ## The waits that come once per semaphore -/

/-- For the waits from `n` on, on the semaphores `q`: the credit and the position. -/
def waitTodo (c : Dev nD) (q : Fin 7 → DmaSem sig) (N : ℕ) (n : ℕ) : sProp 𝕄 :=
  bigSep (rangeSet 7 n 7) fun j => iprop(cred (tallyAt ((c : Thread nD τ), .dma (q j)) () N) ∗ atPos ER ((c : Thread nD τ), .dma (q j)) 0 (∅ : Finset (Fin 7)) 0)
/-- For the waits before `n`: the position after, and what came in. -/
def waitDone (c : Dev nD) (q : Fin 7 → DmaSem sig) (P : Fin 7 → sProp 𝕄) (n : ℕ) : sProp 𝕄 :=
  bigSep (rangeSet 7 0 n) fun j => iprop(atPos ER ((c : Thread nD τ), .dma (q j)) 1 (∅ : Finset (Fin 7)) 0 ∗ P j)

/-- Wait `j` on the semaphores `q`, of kind `kd`. -/
theorem step_once {α : Type} {Q : α → sProp 𝕄} {k : PUnit → Prog (TpuEff nD τ sig (Elt F) Λ₀ .tc) α} {sp sp' : Space} {s s' : Shape} {e e' : EltTy} {κ' : Kind}
    (c : Dev nD) (q : Fin 7 → DmaSem sig) (kd : Fin 7 → Kd) (N : ℕ) (j : Fin 7) (n : ℕ) (hj : j.val = n) (hq : 2 ≤ (q j).val) (hkd : dec (q j).val = kd j)
    (hr : 0 < kRounds (kd j)) (hN : kAmount (kd j) = N) (d : ℕ) (hd : d < 7 → kLevel (kd j) < 3)
    {src : Memref sig .tc sp' s' e'} {dst : Memref sig κ' sp s e} {hsrc : src.view.WordExact} {hdst : dst.view.WordExact}
    (hdN : dst.view.dmaCredit = N) :
    iprop(facts m ρ ∗ waitTodo c q N n ∗ ow c (owed c 7 7 d))
      ⊢ iprop((waitTodo c q N (n + 1) ∗ ow c (owed c 7 7 d) ∗ atPos ER ((c : Thread nD τ), .dma (q j)) 1 (∅ : Finset (Fin 7)) 0 ∗ kPay m ρ c 0 (kd j) -∗ run c (k ⟨⟩) Q)
        -∗ run c (.op (.waitDma2 (q j) src dst hsrc hdst) k) Q) := by
  subst hj
  unfold waitTodo
  rw [todo_head]
  iintro ⟨#HF, ⟨⟨Hc, Hat⟩, Hrest⟩, HO⟩ Hk
  iapply (step_wait m ρ c (q j) hq (kd j) hkd 0 hr N hN 7 7 d (fun h => absurd h (Nat.lt_irrefl 7)) (fun h => absurd h (Nat.lt_irrefl 7)) hd hdN) $$ [Hc Hat HO]
  · isplitr; · iexact HF
    isplitl [Hc]; · iexact Hc
    isplitl [Hat]; · iexact Hat
    iexact HO
  iintro ⟨Hat, -, HO, Hp⟩
  iapply Hk
  isplitl [Hrest]; · iexact Hrest
  isplitl [HO]; · iexact HO
  isplitl [Hat]; · iexact Hat
  iexact Hp

/-- Source `j`'s rows have landed. -/
theorem step_recv {α : Type} {Q : α → sProp 𝕄} {k : PUnit → Prog (TpuEff nD τ sig (Elt F) Λ₀ .tc) α} (c : Dev nD) (j : Fin 7) (n : ℕ) (hj : j.val = n)
    {src : Memref sig .tc .vmem S512x512 .f32} {hsrc : src.view.WordExact} {hdst : (rSlot j).view.WordExact} :
    iprop(facts m ρ ∗ waitTodo c rcvS Nx n ∗ ow c (owed c 7 7 0))
      ⊢ iprop((waitTodo c rcvS Nx (n + 1) ∗ ow c (owed c 7 7 0) ∗ atPos ER (rcvC c j) 1 (∅ : Finset (Fin 7)) 0 ∗ rPts c j (rBuf m ρ c) -∗ run c (k ⟨⟩) Q)
        -∗ run c (.op (.waitDma2 (rcvS j) src (rSlot j) hsrc hdst) k) Q) :=
  step_once m ρ c rcvS .rcv Nx j n hj (by rw [rcvS_val]; omega) (dec_rcv j) Nat.one_pos rfl 0 (fun _ => by show 2 < 3; decide) (credit_rSlot j)

/-- Source `j`'s maximum has landed. -/
theorem step_arecv {α : Type} {Q : α → sProp 𝕄} {k : PUnit → Prog (TpuEff nD τ sig (Elt F) Λ₀ .tc) α} (c : Dev nD) (j : Fin 7) (n : ℕ) (hj : j.val = n)
    {src : Memref sig .tc .vmem S1x128 .f32} {hsrc : src.view.WordExact} {hdst : (aSlot j).view.WordExact} :
    iprop(facts m ρ ∗ waitTodo c arcvS Na n ∗ ow c (owed c 7 7 7))
      ⊢ iprop((waitTodo c arcvS Na (n + 1) ∗ ow c (owed c 7 7 7) ∗ atPos ER (arcvC c j) 1 (∅ : Finset (Fin 7)) 0 ∗ aPts c j (aBuf m ρ c) -∗ run c (k ⟨⟩) Q)
        -∗ run c (.op (.waitDma2 (arcvS j) src (aSlot j) hsrc hdst) k) Q) :=
  step_once m ρ c arcvS .arcv Na j n hj (by rw [arcvS_val]; omega) (dec_arcv j) Nat.one_pos rfl 7 (fun h => absurd h (Nat.lt_irrefl 7)) (credit_aSlot j)

/-- Transfer `j` of rows has left: its rows come back. -/
theorem step_sent {α : Type} {Q : α → sProp 𝕄} {k : PUnit → Prog (TpuEff nD τ sig (Elt F) Λ₀ .tc) α} (c : Dev nD) (j : Fin 7) (n : ℕ) (hj : j.val = n)
    {src : Memref sig .tc .vmem S512x512 .f32} {hsrc : src.view.WordExact} {hdst : (xBlk c j).view.WordExact} :
    iprop(facts m ρ ∗ waitTodo c sndS Nx n ∗ ow c (owed c 7 7 7) ∗ waitDone c sndS (xPts m ρ c) n)
      ⊢ iprop((waitTodo c sndS Nx (n + 1) ∗ ow c (owed c 7 7 7) ∗ waitDone c sndS (xPts m ρ c) (n + 1) -∗ run c (k ⟨⟩) Q)
        -∗ run c (.op (.waitDma2 (sndS j) src (xBlk c j) hsrc hdst) k) Q) := by
  subst hj
  iintro ⟨#HF, Ht, HO, Hd⟩ Hk
  iapply (step_once m ρ c sndS .snd Nx j _ rfl (by rw [sndS_val]; omega) (dec_snd j) Nat.one_pos rfl 7 (fun h => absurd h (Nat.lt_irrefl 7)) (credit_xBlk c j)) $$ [Ht HO]
  · isplitr; · iexact HF
    isplitl [Ht] <;> iassumption
  iintro ⟨Ht, HO, Hat, Hp⟩
  iapply Hk
  isplitl [Ht]; · iexact Ht
  isplitl [HO]; · iexact HO
  unfold waitDone
  rw [done_last]
  isplitl [Hat Hp]
  · isplitl [Hat]; · iexact Hat
    iapply (show kPay m ρ c 0 (.snd j) ⊢ xPts m ρ c j from BI.Entails.refl _)
    iexact Hp
  iexact Hd

/-- Transfer `j` of a maximum has left: its share of the vector comes back. -/
theorem step_asent {α : Type} {Q : α → sProp 𝕄} {k : PUnit → Prog (TpuEff nD τ sig (Elt F) Λ₀ .tc) α} (c : Dev nD) (j : Fin 7) (n : ℕ) (hj : j.val = n)
    {src : Memref sig .tc .vmem S1x128 .f32} {hsrc : src.view.WordExact} {hdst : asM.view.WordExact} :
    iprop(facts m ρ ∗ waitTodo c asndS Na n ∗ ow c (owed c 7 7 7) ∗ waitDone c asndS (asPts m ρ c) n)
      ⊢ iprop((waitTodo c asndS Na (n + 1) ∗ ow c (owed c 7 7 7) ∗ waitDone c asndS (asPts m ρ c) (n + 1) -∗ run c (k ⟨⟩) Q)
        -∗ run c (.op (.waitDma2 (asndS j) src asM hsrc hdst) k) Q) := by
  subst hj
  iintro ⟨#HF, Ht, HO, Hd⟩ Hk
  iapply (step_once m ρ c asndS .asnd Na j _ rfl (by rw [asndS_val]; omega) (dec_asnd j) Nat.one_pos rfl 7 (fun h => absurd h (Nat.lt_irrefl 7)) credit_asM) $$ [Ht HO]
  · isplitr; · iexact HF
    isplitl [Ht] <;> iassumption
  iintro ⟨Ht, HO, Hat, Hp⟩
  iapply Hk
  isplitl [Ht]; · iexact Ht
  isplitl [HO]; · iexact HO
  unfold waitDone
  rw [done_last]
  isplitl [Hat Hp]
  · isplitl [Hat]; · iexact Hat
    iapply (show kPay m ρ c 0 (.asnd j) ⊢ asPts m ρ c j from BI.Entails.refl _)
    iexact Hp
  iexact Hd

/-! ## Loads and stores -/

theorem mem_setOn_whole (b : Ref sig .tc) (M : Finset b.ty.shape.Idx) (i : b.ty.Idx) : i ∈ (View.whole b).setOn M ↔ i ∈ M := View.mem_setOn (View.whole b)

/-- The staged operand but for the rows that are sent. -/
def xOwn (c : Dev nD) : Finset S4096x512.Idx := Finset.univ \ Finset.univ.biUnion fun j => (xBlk c j).view.set
def xRest (c : Dev nD) : sProp 𝕄 := xM.view.loc (c : Thread nD τ) ↦[xOwn c]{fullShare} xstg m ρ c

theorem peer_ne (c : Dev nD) (j : Fin 7) : (peer c j).val ≠ c.val := by revert c j; decide

theorem xOwn_load (c : Dev nD) :
    xM.view.setOn (Rect.unit (s := S4096x512) (k0_off3 c) S512x512.size (k0_off3_inb c)).toLoadRect.set ⊆ xOwn c := by
  intro i hi
  have hi := (Rect.mem_set_unit (inb := k0_off3_inb c)).mp ((mem_setOn_whole cc0_stg0_0 _ i).mp hi) 0
  have e : k0_off3 c 0 = 512 * c.val := congrFun (k0_off3_eq c) 0
  rw [e] at hi
  change 512 * c.val ≤ (i 0).val ∧ (i 0).val < 512 * c.val + 512 at hi
  unfold xOwn
  rw [Finset.mem_sdiff, Finset.mem_biUnion]
  refine ⟨Finset.mem_univ _, fun ⟨j, _, hj⟩ => ?_⟩
  have hj := (mem_xBlk c j i).mp hj
  have h1 := peer_ne c j
  omega

/-- Loading the device's own rows. -/
theorem step_load_x {α : Type} {Q : α → sProp 𝕄} (c : Dev nD) {k : Vec F S512x512 .f32 → Prog (TpuEff nD τ sig (Elt F) Λ₀ .tc) α}
    {hl : xM.view.LoadsAt (Rect.unit (s := S4096x512) (k0_off3 c) S512x512.size (k0_off3_inb c)).toLoadRect} :
    xRest m ρ c ⊢ iprop((xRest m ρ c -∗ run c (k (xin m ρ c)) Q)
      -∗ run c (.op (.load xM (Rect.unit (s := S4096x512) (k0_off3 c) S512x512.size (k0_off3_inb c)).toLoadRect hl) k) Q) := by
  unfold xRest
  exact wp_load 𝒱₀ (c : Thread nD τ) none Set.univ (m := xM) (xOwn_load c)

/-- Loading landing slot `j`. -/
theorem step_load_r {α : Type} {Q : α → sProp 𝕄} (c : Dev nD) (j : Fin 7) (n : ℕ) (hj : j.val = n) {k : Vec F S1x512x512 .f32 → Prog (TpuEff nD τ sig (Elt F) Λ₀ .tc) α}
    {hl : rM.view.LoadsAt (Rect.unit (s := S7x512x512) ![j.val, 0, 0] S1x512x512.size (inb_r j)).toLoadRect} :
    iprop(atPos ER (rcvC c j) 1 (∅ : Finset (Fin 7)) 0 ∗ rPts c j (rBuf m ρ c) ∗ waitDone c rcvS (fun j => rPts c j (rBuf m ρ c)) n)
      ⊢ iprop((waitDone c rcvS (fun j => rPts c j (rBuf m ρ c)) (n + 1) -∗ run c (k (rin m ρ c j)) Q)
      -∗ run c (.op (.load rM (Rect.unit (s := S7x512x512) ![j.val, 0, 0] S1x512x512.size (inb_r j)).toLoadRect hl) k) Q) := by
  subst hj
  unfold waitDone
  rw [done_last]
  unfold rPts
  iintro ⟨Hat, Hr, Hd⟩ Hk
  iapply (wp_load 𝒱₀ (c : Thread nD τ) none Set.univ (m := rM) (fun i hi => by
    rw [show (rSlot j).view.set = (Rect.unit (s := S7x512x512) ![j.val, 0, 0] S1x512x512.size (inb_r j)).set from
      (View.set_reshape _ _).trans (View.set_slice_whole _ _)]
    exact (mem_setOn_whole cc0_scratch1 _ i).mp hi)) $$ Hr
  iintro Hr
  iapply Hk
  isplitl [Hat Hr]
  · isplitl [Hat] <;> iassumption
  iexact Hd

/-- Loading the first lane of maximum slot `j`. -/
theorem step_load_a {α : Type} {Q : α → sProp 𝕄} (c : Dev nD) (j : Fin 7) (n : ℕ) (hj : j.val = n) {k : Vec F S1x1x1 .f32 → Prog (TpuEff nD τ sig (Elt F) Λ₀ .tc) α}
    {hl : arM.view.LoadsAt (Rect.unit (s := S7x1x128) ![j.val, 0, 0] S1x1x1.size (inb_am j)).toLoadRect} :
    iprop(atPos ER (arcvC c j) 1 (∅ : Finset (Fin 7)) 0 ∗ aPts c j (aBuf m ρ c) ∗ waitDone c arcvS (fun j => aPts c j (aBuf m ρ c)) n)
      ⊢ iprop((waitDone c arcvS (fun j => aPts c j (aBuf m ρ c)) (n + 1) -∗ run c (k (ain m ρ c j)) Q)
      -∗ run c (.op (.load arM (Rect.unit (s := S7x1x128) ![j.val, 0, 0] S1x1x1.size (inb_am j)).toLoadRect hl) k) Q) := by
  subst hj
  unfold waitDone
  rw [done_last]
  unfold aPts
  iintro ⟨Hat, Hr, Hd⟩ Hk
  iapply (wp_load 𝒱₀ (c : Thread nD τ) none Set.univ (m := arM) (fun i hi => by
    refine (mem_aSlot j i).mpr ?_
    have h := (Rect.mem_set_unit (inb := inb_am j)).mp ((mem_setOn_whole cc0_scratch3 _ i).mp hi) 0
    change j.val ≤ (i 0).val ∧ (i 0).val < j.val + 1 at h
    omega)) $$ Hr
  iintro Hr
  iapply Hk
  isplitl [Hat Hr]
  · isplitl [Hat] <;> iassumption
  iexact Hd

/-- Loading weight slot `s` while it holds step `n`'s rows. -/
theorem step_load_w {α : Type} {Q : α → sProp 𝕄} (c : Dev nD) (n : Fin 8) (s : Fin 2) {k : Vec F S1x512x2048 .f32 → Prog (TpuEff nD τ sig (Elt F) Λ₀ .tc) α}
    {hl : wbM.view.LoadsAt (Rect.unit (s := S2x512x2048) ![s.val, 0, 0] S1x512x2048.size (inb_wb s)).toLoadRect} :
    (wbPts c s (wBuf m c n)) ⊢ iprop((wbPts c s (wBuf m c n) -∗ run c (k (win m c n s)) Q)
      -∗ run c (.op (.load wbM (Rect.unit (s := S2x512x2048) ![s.val, 0, 0] S1x512x2048.size (inb_wb s)).toLoadRect hl) k) Q) := by
  unfold wbPts
  exact wp_load 𝒱₀ (c : Thread nD τ) none Set.univ (m := wbM) (fun i hi => by
    rw [show (wSlot s).view.set = (Rect.unit (s := S2x512x2048) ![s.val, 0, 0] S1x512x2048.size (inb_wb s)).set from
      (View.set_reshape _ _).trans (View.set_slice_whole _ _)]
    exact (mem_setOn_whole cc0_scratch0 _ i).mp hi)

theorem hz : (![0, 0] : Fin 2 → Nat) = fun _ => 0 := funext fun a => by fin_cases a <;> rfl

/-- The result's staging buffer at contents `f`, and the vector of maxima. -/
def oPts (c : Dev nD) (f : Vec F S512x2048 .f32) : sProp 𝕄 := oM.view.loc (c : Thread nD τ) ↦{fullShare} (f : Buf (Elt F) ((c : Thread nD τ).loc cc0_stg1_0))
def asAll (c : Dev nD) (f : Vec F S1x128 .f32) : sProp 𝕄 := asM.view.loc (c : Thread nD τ) ↦{fullShare} (f : Buf (Elt F) ((c : Thread nD τ).loc cc0_scratch2))

abbrev rectO : Rect S512x2048 := Rect.unit (s := S512x2048) ![0, 0] S512x2048.size inb_S512x2048_S512x2048_0_0
abbrev rectA : Rect S1x128 := Rect.unit (s := S1x128) ![0, 0] S1x128.size inb_S1x128_S1x128_0_0

omit [FloatOps F] in
theorem read_o (f : (cc0_stg1_0 : Ref sig .tc).ty.Contents (Elt F)) : oM.view.readAt (Elt F) rectO.toLoadRect f = f :=
  Memref.readAt_unit_zero (Elt F) cc0_stg1_0 hz _ f
omit [FloatOps F] in
theorem read_as (f : (cc0_scratch2 : Ref sig .tc).ty.Contents (Elt F)) : asM.view.readAt (Elt F) rectA.toLoadRect f = f :=
  Memref.readAt_unit_zero (Elt F) cc0_scratch2 hz _ f
omit [FloatOps F] in
theorem write_o (f w : (cc0_stg1_0 : Ref sig .tc).ty.Contents (Elt F)) : (oM.access rectO : View sig .tc _ _ _).write (Elt F) f w Finset.univ = w :=
  Memref.write_access_unit_zero_univ (Elt F) cc0_stg1_0 hz _ f w
omit [FloatOps F] in
theorem write_as (f w : (cc0_scratch2 : Ref sig .tc).ty.Contents (Elt F)) : (asM.access rectA : View sig .tc _ _ _).write (Elt F) f w Finset.univ = w :=
  Memref.write_access_unit_zero_univ (Elt F) cc0_scratch2 hz _ f w

theorem step_load_o {α : Type} {Q : α → sProp 𝕄} (c : Dev nD) {f : Vec F S512x2048 .f32} {k : Vec F S512x2048 .f32 → Prog (TpuEff nD τ sig (Elt F) Λ₀ .tc) α}
    {hl : oM.view.LoadsAt rectO.toLoadRect} :
    (oPts c f) ⊢ iprop((oPts c f -∗ run c (k f) Q) -∗ run c (.op (.load oM rectO.toLoadRect hl) k) Q) := by
  unfold oPts
  iintro H Hk
  iapply (wp_load 𝒱₀ (c : Thread nD τ) none Set.univ (m := oM) (Finset.subset_univ _)) $$ H
  iintro H
  rw [read_o]
  iapply Hk
  iexact H

theorem step_load_as {α : Type} {Q : α → sProp 𝕄} (c : Dev nD) {f : Vec F S1x128 .f32} {k : Vec F S1x128 .f32 → Prog (TpuEff nD τ sig (Elt F) Λ₀ .tc) α}
    {hl : asM.view.LoadsAt rectA.toLoadRect} :
    (asAll c f) ⊢ iprop((asAll c f -∗ run c (k f) Q) -∗ run c (.op (.load asM rectA.toLoadRect hl) k) Q) := by
  unfold asAll
  iintro H Hk
  iapply (wp_load 𝒱₀ (c : Thread nD τ) none Set.univ (m := asM) (Finset.subset_univ _)) $$ H
  iintro H
  rw [read_as]
  iapply Hk
  iexact H

theorem step_store_o {α : Type} {Q : α → sProp 𝕄} (c : Dev nD) {f w : Vec F S512x2048 .f32} {k : PUnit → Prog (TpuEff nD τ sig (Elt F) Λ₀ .tc) α}
    {hx : (oM.access rectO).Stores Finset.univ} {hm : (Finset.univ : Finset rectO.shape.Idx) = Finset.univ ∨ ∀ a, rectO.stride a = 1} :
    (oPts c f) ⊢ iprop((oPts c w -∗ run c (k ⟨⟩) Q) -∗ run c (.op (.store oM rectO w Finset.univ hx hm) k) Q) := by
  unfold oPts
  iintro H Hk
  iapply (wp_store 𝒱₀ (c : Thread nD τ) none Set.univ (m := oM) (r := rectO) (Mk := Finset.univ) (Finset.subset_univ _)) $$ H
  iintro H
  rw [write_o]
  iapply Hk
  iexact H

theorem step_store_as {α : Type} {Q : α → sProp 𝕄} (c : Dev nD) {f w : Vec F S1x128 .f32} {k : PUnit → Prog (TpuEff nD τ sig (Elt F) Λ₀ .tc) α}
    {hx : (asM.access rectA).Stores Finset.univ} {hm : (Finset.univ : Finset rectA.shape.Idx) = Finset.univ ∨ ∀ a, rectA.stride a = 1} :
    (asAll c f) ⊢ iprop((asAll c w -∗ run c (k ⟨⟩) Q) -∗ run c (.op (.store asM rectA w Finset.univ hx hm) k) Q) := by
  unfold asAll
  iintro H Hk
  iapply (wp_store 𝒱₀ (c : Thread nD τ) none Set.univ (m := asM) (r := rectA) (Mk := Finset.univ) (Finset.subset_univ _)) $$ H
  iintro H
  rw [write_as]
  iapply Hk
  iexact H

end Cert.KernelIdealProof
-- ==== Proof.BodyA.lean ====
/-
The first parts of the kernel: the barrier, and the transfers of rows.
-/
module

public import proofs.«01_k».proof.Proof.Moves

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the kernel addresses -/

theorem dev1 (c : Dev nD) : (⟨k0_dev1 c, k0_dev1_lt c⟩ : Dev nD) = peer c 0 := Fin.ext (k0_dev1_eq c)
theorem dev2 (c : Dev nD) : (⟨k0_dev2 c, k0_dev2_lt c⟩ : Dev nD) = peer c 1 := Fin.ext (k0_dev2_eq c)
theorem dev3 (c : Dev nD) : (⟨k0_dev3 c, k0_dev3_lt c⟩ : Dev nD) = peer c 2 := Fin.ext (k0_dev3_eq c)
theorem dev4 (c : Dev nD) : (⟨k0_dev4 c, k0_dev4_lt c⟩ : Dev nD) = peer c 3 := Fin.ext (k0_dev4_eq c)
theorem dev5 (c : Dev nD) : (⟨k0_dev5 c, k0_dev5_lt c⟩ : Dev nD) = peer c 4 := Fin.ext (k0_dev5_eq c)
theorem dev6 (c : Dev nD) : (⟨k0_dev6 c, k0_dev6_lt c⟩ : Dev nD) = peer c 5 := Fin.ext (k0_dev6_eq c)
theorem dev7 (c : Dev nD) : (⟨k0_dev7 c, k0_dev7_lt c⟩ : Dev nD) = peer c 6 := Fin.ext (k0_dev7_eq c)
theorem dev8 (c : Dev nD) : (⟨k0_dev8 c, k0_dev8_lt c⟩ : Dev nD) = peer c 0 := Fin.ext (k0_dev8_eq c)
theorem dev9 (c : Dev nD) : (⟨k0_dev9 c, k0_dev9_lt c⟩ : Dev nD) = peer c 1 := Fin.ext (k0_dev9_eq c)
theorem dev10 (c : Dev nD) : (⟨k0_dev10 c, k0_dev10_lt c⟩ : Dev nD) = peer c 2 := Fin.ext (k0_dev10_eq c)
theorem dev11 (c : Dev nD) : (⟨k0_dev11 c, k0_dev11_lt c⟩ : Dev nD) = peer c 3 := Fin.ext (k0_dev11_eq c)
theorem dev12 (c : Dev nD) : (⟨k0_dev12 c, k0_dev12_lt c⟩ : Dev nD) = peer c 4 := Fin.ext (k0_dev12_eq c)
theorem dev13 (c : Dev nD) : (⟨k0_dev13 c, k0_dev13_lt c⟩ : Dev nD) = peer c 5 := Fin.ext (k0_dev13_eq c)
theorem dev14 (c : Dev nD) : (⟨k0_dev14 c, k0_dev14_lt c⟩ : Dev nD) = peer c 6 := Fin.ext (k0_dev14_eq c)
theorem dev15 (c : Dev nD) : (⟨k0_dev15 c, k0_dev15_lt c⟩ : Dev nD) = peer c 0 := Fin.ext (k0_dev15_eq c)
theorem dev16 (c : Dev nD) : (⟨k0_dev16 c, k0_dev16_lt c⟩ : Dev nD) = peer c 1 := Fin.ext (k0_dev16_eq c)
theorem dev17 (c : Dev nD) : (⟨k0_dev17 c, k0_dev17_lt c⟩ : Dev nD) = peer c 2 := Fin.ext (k0_dev17_eq c)
theorem dev18 (c : Dev nD) : (⟨k0_dev18 c, k0_dev18_lt c⟩ : Dev nD) = peer c 3 := Fin.ext (k0_dev18_eq c)
theorem dev19 (c : Dev nD) : (⟨k0_dev19 c, k0_dev19_lt c⟩ : Dev nD) = peer c 4 := Fin.ext (k0_dev19_eq c)
theorem dev20 (c : Dev nD) : (⟨k0_dev20 c, k0_dev20_lt c⟩ : Dev nD) = peer c 5 := Fin.ext (k0_dev20_eq c)
theorem dev21 (c : Dev nD) : (⟨k0_dev21 c, k0_dev21_lt c⟩ : Dev nD) = peer c 6 := Fin.ext (k0_dev21_eq c)

/-- The duties of the transfers of rows; of the transfers of maxima. -/
def sndToks (c : Dev nD) : sProp 𝕄 := bigSep Finset.univ fun j : Fin 7 =>
  iprop(dutyTok ER (sndC c j) 0 (0 : Fin 7) ∗ dutyTok ER (rcvC (peer c j) j) 0 (0 : Fin 7))
def asndToks (c : Dev nD) : sProp 𝕄 := bigSep Finset.univ fun j : Fin 7 =>
  iprop(dutyTok ER (asndC c j) 0 (0 : Fin 7) ∗ dutyTok ER (arcvC (peer c j) j) 0 (0 : Fin 7))
/-- The peers' slots for maxima. -/
def peerA (c : Dev nD) : sProp 𝕄 := bigSep Finset.univ fun j : Fin 7 => iprop(∃ f, aPts (F := F) (peer c j) j f)

/-- What the barrier brings in makes, with the duties and the rows, all the transfers of rows. -/
theorem snd_all (c : Dev nD) :
    iprop(sndToks c ∗ (bigSep Finset.univ fun j => xPts m ρ c j) ∗ (bigSep Finset.univ fun d => barPay (F := F) c d)) ⊢ iprop(sndTodo m ρ c 0 ∗ peerA c) := by
  unfold sndToks sndTodo peerA barPay
  rw [Ring.rangeSet_univ]
  unfold sndItem
  simp only [bigSep_sep']
  iintro ⟨⟨H1, H2⟩, Hx, Hr, Ha⟩
  isplitr [Ha]
  · isplitl [H1]; · iexact H1
    isplitl [H2]; · iexact H2
    isplitl [Hx] <;> iassumption
  iexact Ha

theorem sndCred_zero (c : Dev nD) : sndCred (F := F) c 0 = iprop(emp) := Ring.bigSep_rangeSet_empty (le_refl 0)

theorem part1 (c : Dev nD) {Q : (Σ' (d0 : Dev nD) (v2 : BitVec 32) (v3 : Sems sig S_) (v24 : BitVec 32), BitVec 32) → sProp 𝕄} :
    iprop(facts m ρ ∗ sigTodo c 0 ∗ ow c (owed c 0 0 0))
      ⊢ iprop((∀ v2 v24, sigTodo c 5 ∗ ow c (owed c 5 0 0) -∗ Q ⟨c, v2, SemArray.scalar (sig.barrier 0 rfl), v24, 8#32⟩)
        -∗ run c (k0_part1 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8) Q) := by
  simp only [k0_part1_eq_skeleton]; unfold k0_part1_skel
  simp only [semSignalWord, semWaitWord, Prog.lift, Prog.bind_op, Prog.bind_ret, Prog.pure_eq_ret, wp_deviceId]
  iintro ⟨#HF, Hs, HO⟩ Hk
  iapply (step_signal m ρ c 0 0 rfl _ (dev1 c) _ rfl) $$ [Hs HO]
  · isplitr; · iexact HF
    isplitl [Hs] <;> iassumption
  iintro ⟨Hs, HO⟩
  iapply (step_signal m ρ c 1 1 rfl _ (dev2 c) _ rfl) $$ [Hs HO]
  · isplitr; · iexact HF
    isplitl [Hs] <;> iassumption
  iintro ⟨Hs, HO⟩
  iapply (step_signal m ρ c 2 2 rfl _ (dev3 c) _ rfl) $$ [Hs HO]
  · isplitr; · iexact HF
    isplitl [Hs] <;> iassumption
  iintro ⟨Hs, HO⟩
  iapply (step_signal m ρ c 3 3 rfl _ (dev4 c) _ rfl) $$ [Hs HO]
  · isplitr; · iexact HF
    isplitl [Hs] <;> iassumption
  iintro ⟨Hs, HO⟩
  iapply (step_signal m ρ c 4 4 rfl _ (dev5 c) _ rfl) $$ [Hs HO]
  · isplitr; · iexact HF
    isplitl [Hs] <;> iassumption
  iintro ⟨Hs, HO⟩
  iapply run_ret
  iapply Hk
  isplitl [Hs] <;> iassumption

theorem part2 (c : Dev nD) (v2 v24 v8 : BitVec 32) {Q : (Σ' (v33 : BitVec 32), BitVec 32) → sProp 𝕄} :
    iprop(facts m ρ ∗ sigTodo c 5 ∗ ow c (owed c 5 0 0) ∗ cred (tallyAt (barC c) () 7) ∗ atPos ER (barC c) 0 ∅ 0
        ∗ sndToks c ∗ (bigSep Finset.univ fun j => xPts m ρ c j))
      ⊢ iprop((∀ v33 v45, atPos ER (barC c) 1 ∅ 0 ∗ peerA c ∗ sndTodo m ρ c 1 ∗ sndCred c 1 ∗ ow c (owed c 7 1 0) -∗ Q ⟨v33, v45⟩)
        -∗ run c (k0_part2 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2 (SemArray.scalar (sig.barrier 0 rfl)) v24 v8) Q) := by
  simp only [k0_part2_eq_skeleton]; unfold k0_part2_skel
  simp only [semSignalWord, semWaitWord, Prog.lift, Prog.bind_op, Prog.bind_ret, Prog.pure_eq_ret]
  iintro ⟨#HF, Hs, HO, HcB, HatB, Htok, Hxs⟩ Hk
  iapply (step_signal m ρ c 5 5 rfl _ (dev6 c) _ rfl) $$ [Hs HO]
  · isplitr; · iexact HF
    isplitl [Hs] <;> iassumption
  iintro ⟨Hs, HO⟩
  iapply (step_signal m ρ c 6 6 rfl _ (dev7 c) _ rfl) $$ [Hs HO]
  · isplitr; · iexact HF
    isplitl [Hs] <;> iassumption
  iintro ⟨Hs, HO⟩
  iapply (step_barrier m ρ c _ rfl) $$ [HcB HatB HO]
  · isplitr; · iexact HF
    isplitl [HcB]; · iexact HcB
    isplitl [HatB] <;> iassumption
  iintro ⟨HatB, HO, Hpay⟩
  ihave H := (snd_all m ρ c) $$ [Htok Hxs Hpay]
  · isplitl [Htok]; · iexact Htok
    isplitl [Hxs] <;> iassumption
  icases H with ⟨Hx, Hpa⟩
  ihave Hc := (Entails.of_eq (sndCred_zero (F := F) c).symm) $$ []
  · iempintro
  iapply (step_send m ρ c 0 0 rfl _ (dev8 c)) $$ [Hx Hc HO]
  · isplitr; · iexact HF
    isplitl [Hx]; · iexact Hx
    isplitl [Hc] <;> iassumption
  iintro ⟨Hx, Hc, HO⟩
  iapply run_ret
  iapply Hk
  isplitl [HatB]; · iexact HatB
  isplitl [Hpa]; · iexact Hpa
  isplitl [Hx]; · iexact Hx
  isplitl [Hc] <;> iassumption

theorem part3 (c : Dev nD) (v2 : BitVec 32) {Q : (Σ' (v57 : BitVec 32) (v69 : BitVec 32), BitVec 32) → sProp 𝕄} :
    iprop(facts m ρ ∗ sndTodo m ρ c 1 ∗ sndCred c 1 ∗ ow c (owed c 7 1 0))
      ⊢ iprop((∀ v57 v69 v81, sndTodo m ρ c 4 ∗ sndCred c 4 ∗ ow c (owed c 7 4 0) -∗ Q ⟨v57, v69, v81⟩)
        -∗ run c (k0_part3 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2) Q) := by
  simp only [k0_part3_eq_skeleton]; unfold k0_part3_skel
  simp only [semSignalWord, semWaitWord, Prog.lift, Prog.bind_op, Prog.bind_ret, Prog.pure_eq_ret]
  iintro ⟨#HF, Hx, Hc, HO⟩ Hk
  iapply (step_send m ρ c 1 1 rfl _ (dev9 c)) $$ [Hx Hc HO]
  · isplitr; · iexact HF
    isplitl [Hx]; · iexact Hx
    isplitl [Hc] <;> iassumption
  iintro ⟨Hx, Hc, HO⟩
  iapply (step_send m ρ c 2 2 rfl _ (dev10 c)) $$ [Hx Hc HO]
  · isplitr; · iexact HF
    isplitl [Hx]; · iexact Hx
    isplitl [Hc] <;> iassumption
  iintro ⟨Hx, Hc, HO⟩
  iapply (step_send m ρ c 3 3 rfl _ (dev11 c)) $$ [Hx Hc HO]
  · isplitr; · iexact HF
    isplitl [Hx]; · iexact Hx
    isplitl [Hc] <;> iassumption
  iintro ⟨Hx, Hc, HO⟩
  iapply run_ret
  iapply Hk
  isplitl [Hx]; · iexact Hx
  isplitl [Hc] <;> iassumption

theorem part4 (c : Dev nD) (v2 : BitVec 32) (v81 : BitVec 32) {Q : (Σ' (v93 : BitVec 32), BitVec 32) → sProp 𝕄} :
    iprop(facts m ρ ∗ sndTodo m ρ c 4 ∗ sndCred c 4 ∗ ow c (owed c 7 4 0))
      ⊢ iprop((∀ v93 v105, sndTodo m ρ c 6 ∗ sndCred c 6 ∗ ow c (owed c 7 6 0) -∗ Q ⟨v93, v105⟩)
        -∗ run c (k0_part4 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2 v81) Q) := by
  simp only [k0_part4_eq_skeleton]; unfold k0_part4_skel
  simp only [semSignalWord, semWaitWord, Prog.lift, Prog.bind_op, Prog.bind_ret, Prog.pure_eq_ret]
  iintro ⟨#HF, Hx, Hc, HO⟩ Hk
  iapply (step_send m ρ c 4 4 rfl _ (dev12 c)) $$ [Hx Hc HO]
  · isplitr; · iexact HF
    isplitl [Hx]; · iexact Hx
    isplitl [Hc] <;> iassumption
  iintro ⟨Hx, Hc, HO⟩
  iapply (step_send m ρ c 5 5 rfl _ (dev13 c)) $$ [Hx Hc HO]
  · isplitr; · iexact HF
    isplitl [Hx]; · iexact Hx
    isplitl [Hc] <;> iassumption
  iintro ⟨Hx, Hc, HO⟩
  iapply run_ret
  iapply Hk
  isplitl [Hx]; · iexact Hx
  isplitl [Hc] <;> iassumption

theorem part5 (c : Dev nD) (v2 : BitVec 32) {Q : PUnit → sProp 𝕄} :
    iprop(facts m ρ ∗ sndTodo m ρ c 6 ∗ sndCred c 6 ∗ ow c (owed c 7 6 0) ∗ wTodo c 0 ∗ wAll m c ∗ (∃ f, wbPts c 0 f) ∗ wAt c 0 0)
      ⊢ iprop((sndCred c 7 ∗ ow c (owed c 7 7 0) ∗ wTodo c 1 ∗ wAll m c ∗ wbPts c 0 (wBuf m c 0) ∗ wAt c 0 1 -∗ Q ⟨⟩)
        -∗ run c (k0_part5 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2) Q) := by
  simp only [k0_part5_eq_skeleton]; unfold k0_part5_skel
  simp only [semSignalWord, semWaitWord, Prog.lift, Prog.bind_op, Prog.bind_ret, Prog.pure_eq_ret]
  iintro ⟨#HF, Hx, Hc, HO, Ht, Hw, Hb0, Ha0⟩ Hk
  iapply (step_send m ρ c 6 6 rfl _ (dev14 c)) $$ [Hx Hc HO]
  · isplitr; · iexact HF
    isplitl [Hx]; · iexact Hx
    isplitl [Hc] <;> iassumption
  iintro ⟨Hx, Hc, HO⟩
  iapply (step_wstart m ρ c 0 0 rfl 0 0 rfl) $$ [Ht Hw Hb0 Ha0]
  · isplitr; · iexact HF
    isplitl [Ht]; · iexact Ht
    isplitl [Hw]; · iexact Hw
    isplitl [Hb0] <;> iassumption
  iintro ⟨Ht, Hw, Hc0, Ha0⟩
  iapply (step_wwait m ρ c 0 0 0 rfl) $$ [Hc0 Ha0 Hw HO]
  · isplitr; · iexact HF
    isplitl [Hc0]; · iexact Hc0
    isplitl [Ha0]; · iexact Ha0
    isplitl [Hw] <;> iassumption
  iintro ⟨Hw, Hb0, Ha0, HO⟩
  iapply run_ret
  iapply Hk
  isplitl [Hc]; · iexact Hc
  isplitl [HO]; · iexact HO
  isplitl [Ht]; · iexact Ht
  isplitl [Hw]; · iexact Hw
  isplitl [Hb0] <;> iassumption

end Cert.KernelIdealProof
-- ==== Proof.BodyB.lean ====
/-
The parts of the kernel that add up the products: a transfer of rows is awaited, its product with the weight
rows of the step is added to the staged result, and the next weight rows are copied meanwhile.
-/
module

public import proofs.«01_k».proof.Proof.BodyA

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One step of the sum -/

/-- The sum with one more product. -/
theorem acc_succ (c : Dev nD) (j : Fin 7) (n : ℕ) (hj : j.val = n) (i : Fin 8) (hi : i.val = n + 1) (s : Fin 2) (hs : s.val = (n + 1) % 2) :
    acc m ρ c (n + 1) = k0_pay2 (rin m ρ c j) (win m c i s) (acc m ρ c n) := by
  subst hj
  have e1 : i = ⟨j.val + 1, Nat.succ_lt_succ j.isLt⟩ := Fin.ext hi
  have e2 : s = ⟨(j.val + 1) % 2, Nat.mod_lt _ (by decide)⟩ := Fin.ext hs
  subst e1 e2
  rw [acc]
  exact dif_pos j.isLt

/-- Source `j`'s rows land, and their product with the weight rows in slot `s` is added to the staged result. -/
theorem step_accum {α : Type} {Q : α → sProp 𝕄} {k : PUnit → Prog (TpuEff nD τ sig (Elt F) Λ₀ .tc) α} (c : Dev nD) (j : Fin 7) (n : ℕ) (hj : j.val = n)
    (i : Fin 8) (hi : i.val = n + 1) (s : Fin 2) (hs : s.val = (n + 1) % 2)
    (pay : Vec F S1x512x512 .f32 → Vec F S1x512x2048 .f32 → Vec F S512x2048 .f32 → FVec F S512x2048 .f32) (hpay : pay = k0_pay2)
    {src : Memref sig .tc .vmem S512x512 .f32} {hsrc : src.view.WordExact} {hdst : (rSlot j).view.WordExact}
    {hl1 : rM.view.LoadsAt (Rect.unit (s := S7x512x512) ![j.val, 0, 0] S1x512x512.size (inb_r j)).toLoadRect}
    {hl2 : wbM.view.LoadsAt (Rect.unit (s := S2x512x2048) ![s.val, 0, 0] S1x512x2048.size (inb_wb s)).toLoadRect}
    {hl3 hl4 : oM.view.LoadsAt rectO.toLoadRect}
    {hx : (oM.access rectO).Stores Finset.univ} {hm : (Finset.univ : Finset rectO.shape.Idx) = Finset.univ ∨ ∀ a, rectO.stride a = 1} :
    iprop(facts m ρ ∗ waitTodo c rcvS Nx n ∗ ow c (owed c 7 7 0) ∗ waitDone c rcvS (fun j => rPts c j (rBuf m ρ c)) n ∗ wbPts c s (wBuf m c i) ∗ oPts c (acc m ρ c n))
      ⊢ iprop((waitTodo c rcvS Nx (n + 1) ∗ ow c (owed c 7 7 0) ∗ waitDone c rcvS (fun j => rPts c j (rBuf m ρ c)) (n + 1) ∗ wbPts c s (wBuf m c i) ∗ oPts c (acc m ρ c (n + 1)) -∗ run c (k ⟨⟩) Q)
        -∗ run c (.op (.waitDma2 (rcvS j) src (rSlot j) hsrc hdst) fun _ =>
          .op (.load rM (Rect.unit (s := S7x512x512) ![j.val, 0, 0] S1x512x512.size (inb_r j)).toLoadRect hl1) fun r =>
          .op (.load wbM (Rect.unit (s := S2x512x2048) ![s.val, 0, 0] S1x512x2048.size (inb_wb s)).toLoadRect hl2) fun w =>
          .op (.load oM rectO.toLoadRect hl3) fun o =>
          .op (.load oM rectO.toLoadRect hl4) fun _ =>
          .op (.store oM rectO (pay r w o) Finset.univ hx hm) k) Q) := by
  subst hpay
  rw [acc_succ m ρ c j n hj i hi s hs]
  iintro ⟨#HF, Hr, HO, Hd, Hb, Ho⟩ Hk
  iapply (step_recv m ρ c j n hj) $$ [Hr HO]
  · isplitr; · iexact HF
    isplitl [Hr] <;> iassumption
  iintro ⟨Hr, HO, Hat, Hp⟩
  iapply (step_load_r m ρ c j n hj) $$ [Hat Hp Hd]
  · isplitl [Hat]; · iexact Hat
    isplitl [Hp] <;> iassumption
  iintro Hd
  iapply (step_load_w m c i s) $$ Hb
  iintro Hb
  iapply (step_load_o c) $$ Ho
  iintro Ho
  iapply (step_load_o c) $$ Ho
  iintro Ho
  iapply (step_store_o c) $$ Ho
  iintro Ho
  iapply Hk
  isplitl [Hr]; · iexact Hr
  isplitl [HO]; · iexact HO
  isplitl [Hd]; · iexact Hd
  isplitl [Hb] <;> iassumption

/-! ## The parts -/

/-- The product with the device's own rows. -/
theorem part6 (c : Dev nD) (v2 : BitVec 32) {Q : PUnit → sProp 𝕄} :
    iprop(facts m ρ ∗ ow c (owed c 7 7 0) ∗ wTodo c 1 ∗ wAll m c ∗ wbPts c 0 (wBuf m c 0) ∗ wAt c 0 1 ∗ (∃ f, wbPts c 1 f) ∗ wAt c 1 0 ∗ xRest m ρ c ∗ (∃ f, oPts c f))
      ⊢ iprop((ow c (owed c 7 7 0) ∗ wTodo c 3 ∗ wRest m c 2 ∗ cred (tallyAt (wC c 0) () Nw) ∗ wAt c 0 1 ∗ wbPts c 1 (wBuf m c 1) ∗ wAt c 1 1 ∗ xRest m ρ c ∗ oPts c (acc m ρ c 0) -∗ Q ⟨⟩)
        -∗ run c (k0_part6 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2) Q) := by
  simp only [k0_part6_eq_skeleton]; unfold k0_part6_skel
  simp only [semSignalWord, semWaitWord, Prog.lift, Prog.bind_op, Prog.bind_ret, Prog.pure_eq_ret]
  iintro ⟨#HF, HO, Ht, Hw, Hb0, Ha0, Hb1, Ha1, Hx, Ho⟩ Hk
  iapply (step_wstart m ρ c 1 1 rfl 1 0 rfl) $$ [Ht Hw Hb1 Ha1]
  · isplitr; · iexact HF
    isplitl [Ht]; · iexact Ht
    isplitl [Hw]; · iexact Hw
    isplitl [Hb1]; · iexact Hb1
    iexact Ha1
  iintro ⟨Ht, Hw, Hc1, Ha1⟩
  iapply (step_load_x m ρ c) $$ Hx
  iintro Hx
  iapply (step_load_w m c 0 0) $$ Hb0
  iintro Hb0
  icases Ho with ⟨%f, Ho⟩
  iapply (step_load_o c) $$ Ho
  iintro Ho
  iapply (step_store_o c) $$ Ho
  iintro Ho
  iapply (step_wwait m ρ c 1 1 0 rfl) $$ [Hc1 Ha1 Hw HO]
  · isplitr; · iexact HF
    isplitl [Hc1]; · iexact Hc1
    isplitl [Ha1]; · iexact Ha1
    isplitl [Hw] <;> iassumption
  iintro ⟨Hw, Hb1, Ha1, HO⟩
  iapply (step_wstart m ρ c 2 2 rfl 0 1 rfl) $$ [Ht Hw Hb0 Ha0]
  · isplitr; · iexact HF
    isplitl [Ht]; · iexact Ht
    isplitl [Hw]; · iexact Hw
    isplitl [Hb0]; · iexists _; iexact Hb0
    iexact Ha0
  iintro ⟨Ht, Hw, Hc0, Ha0⟩
  iapply run_ret
  iapply Hk
  isplitl [HO]; · iexact HO
  isplitl [Ht]; · iexact Ht
  isplitl [Hw]; · iexact Hw
  isplitl [Hc0]; · iexact Hc0
  isplitl [Ha0]; · iexact Ha0
  isplitl [Hb1]; · iexact Hb1
  isplitl [Ha1]; · iexact Ha1
  isplitl [Hx]; · iexact Hx
  iexact Ho

/-- The first source. -/
theorem part7 (c : Dev nD) (v2 : BitVec 32) (v33 : BitVec 32) {Q : BitVec 32 → sProp 𝕄} :
    iprop(facts m ρ ∗ ow c (owed c 7 7 0) ∗ wRest m c 2 ∗ cred (tallyAt (wC c 0) () Nw) ∗ wAt c 0 1 ∗ wbPts c 1 (wBuf m c 1) ∗ oPts c (acc m ρ c 0) ∗ waitTodo c rcvS Nx 0 ∗ waitDone c rcvS (fun j => rPts c j (rBuf m ρ c)) 0)
      ⊢ iprop((∀ v, ow c (owed c 7 7 0) ∗ wAll m c ∗ wbPts c 0 (wBuf m c 2) ∗ wAt c 0 2 ∗ wbPts c 1 (wBuf m c 1) ∗ oPts c (acc m ρ c 1) ∗ waitTodo c rcvS Nx 1 ∗ waitDone c rcvS (fun j => rPts c j (rBuf m ρ c)) 1 -∗ Q v)
        -∗ run c (k0_part7 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2 v33) Q) := by
  simp only [k0_part7_eq_skeleton]; unfold k0_part7_skel
  simp only [semSignalWord, semWaitWord, Prog.lift, Prog.bind_op, Prog.bind_ret, Prog.pure_eq_ret]
  iintro ⟨#HF, HO, Hw, Hc0, Ha0, Hb1, Ho, Hr, Hd⟩ Hk
  iapply (step_accum m ρ c 0 0 rfl 1 rfl 1 rfl k0_pay2 rfl) $$ [Hr HO Hd Hb1 Ho]
  · isplitr; · iexact HF
    isplitl [Hr]; · iexact Hr
    isplitl [HO]; · iexact HO
    isplitl [Hd]; · iexact Hd
    isplitl [Hb1] <;> iassumption
  iintro ⟨Hr, HO, Hd, Hb1, Ho⟩
  iapply (step_wwait m ρ c 2 0 1 rfl) $$ [Hc0 Ha0 Hw HO]
  · isplitr; · iexact HF
    isplitl [Hc0]; · iexact Hc0
    isplitl [Ha0]; · iexact Ha0
    isplitl [Hw] <;> iassumption
  iintro ⟨Hw, Hb0, Ha0, HO⟩
  iapply run_ret
  iapply Hk
  isplitl [HO]; · iexact HO
  isplitl [Hw]; · iexact Hw
  isplitl [Hb0]; · iexact Hb0
  isplitl [Ha0]; · iexact Ha0
  isplitl [Hb1]; · iexact Hb1
  isplitl [Ho]; · iexact Ho
  isplitl [Hr]; · iexact Hr
  iexact Hd

/-- The second source. -/
theorem part8 (c : Dev nD) (v2 : BitVec 32) (v45 : BitVec 32) (v195 : BitVec 32) {Q : PUnit → sProp 𝕄} :
    iprop(facts m ρ ∗ ow c (owed c 7 7 0) ∗ wTodo c 3 ∗ wAll m c ∗ wbPts c 0 (wBuf m c 2) ∗ wbPts c 1 (wBuf m c 1) ∗ wAt c 1 1 ∗ oPts c (acc m ρ c 1) ∗ waitTodo c rcvS Nx 1 ∗ waitDone c rcvS (fun j => rPts c j (rBuf m ρ c)) 1)
      ⊢ iprop((ow c (owed c 7 7 0) ∗ wTodo c 4 ∗ wRest m c 3 ∗ cred (tallyAt (wC c 1) () Nw) ∗ wAt c 1 1 ∗ wbPts c 0 (wBuf m c 2) ∗ oPts c (acc m ρ c 2) ∗ waitTodo c rcvS Nx 2 ∗ waitDone c rcvS (fun j => rPts c j (rBuf m ρ c)) 2 -∗ Q ⟨⟩)
        -∗ run c (k0_part8 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2 v45 v195) Q) := by
  simp only [k0_part8_eq_skeleton]; unfold k0_part8_skel
  simp only [semSignalWord, semWaitWord, Prog.lift, Prog.bind_op, Prog.bind_ret, Prog.pure_eq_ret]
  iintro ⟨#HF, HO, Ht, Hw, Hb0, Hb1, Ha1, Ho, Hr, Hd⟩ Hk
  iapply (step_wstart m ρ c 3 3 rfl 1 1 rfl) $$ [Ht Hw Hb1 Ha1]
  · isplitr; · iexact HF
    isplitl [Ht]; · iexact Ht
    isplitl [Hw]; · iexact Hw
    isplitl [Hb1]; · iexists _; iexact Hb1
    iexact Ha1
  iintro ⟨Ht, Hw, Hc1, Ha1⟩
  iapply (step_accum m ρ c 1 1 rfl 2 rfl 0 rfl k0_pay3 rfl) $$ [Hr HO Hd Hb0 Ho]
  · isplitr; · iexact HF
    isplitl [Hr]; · iexact Hr
    isplitl [HO]; · iexact HO
    isplitl [Hd]; · iexact Hd
    isplitl [Hb0] <;> iassumption
  iintro ⟨Hr, HO, Hd, Hb0, Ho⟩
  iapply run_ret
  iapply Hk
  isplitl [HO]; · iexact HO
  isplitl [Ht]; · iexact Ht
  isplitl [Hw]; · iexact Hw
  isplitl [Hc1]; · iexact Hc1
  isplitl [Ha1]; · iexact Ha1
  isplitl [Hb0]; · iexact Hb0
  isplitl [Ho]; · iexact Ho
  isplitl [Hr]; · iexact Hr
  iexact Hd

/-- The third source's product. -/
theorem part9 (c : Dev nD) (v2 : BitVec 32) (v57 : BitVec 32) {Q : FVec F S512x2048 .f32 → sProp 𝕄} :
    iprop(facts m ρ ∗ ow c (owed c 7 7 0) ∗ wTodo c 4 ∗ wRest m c 3 ∗ cred (tallyAt (wC c 1) () Nw) ∗ wAt c 1 1 ∗ wbPts c 0 (wBuf m c 2) ∗ wAt c 0 2 ∗ waitTodo c rcvS Nx 2 ∗ waitDone c rcvS (fun j => rPts c j (rBuf m ρ c)) 2)
      ⊢ iprop((ow c (owed c 7 7 0) ∗ wTodo c 5 ∗ wRest m c 4 ∗ cred (tallyAt (wC c 0) () Nw) ∗ wAt c 0 2 ∗ wbPts c 1 (wBuf m c 3) ∗ wAt c 1 2 ∗ waitTodo c rcvS Nx 3 ∗ waitDone c rcvS (fun j => rPts c j (rBuf m ρ c)) 3 -∗ Q (k0_pay4 (rin m ρ c 2) (win m c 3 1)))
        -∗ run c (k0_part9 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2 v57) Q) := by
  simp only [k0_part9_eq_skeleton]; unfold k0_part9_skel
  simp only [semSignalWord, semWaitWord, Prog.lift, Prog.bind_op, Prog.bind_ret, Prog.pure_eq_ret]
  iintro ⟨#HF, HO, Ht, Hw, Hc1, Ha1, Hb0, Ha0, Hr, Hd⟩ Hk
  iapply (step_wwait m ρ c 3 1 1 rfl) $$ [Hc1 Ha1 Hw HO]
  · isplitr; · iexact HF
    isplitl [Hc1]; · iexact Hc1
    isplitl [Ha1]; · iexact Ha1
    isplitl [Hw] <;> iassumption
  iintro ⟨Hw, Hb1, Ha1, HO⟩
  iapply (step_wstart m ρ c 4 4 rfl 0 2 rfl) $$ [Ht Hw Hb0 Ha0]
  · isplitr; · iexact HF
    isplitl [Ht]; · iexact Ht
    isplitl [Hw]; · iexact Hw
    isplitl [Hb0]; · iexists _; iexact Hb0
    iexact Ha0
  iintro ⟨Ht, Hw, Hc0, Ha0⟩
  iapply (step_recv m ρ c 2 2 rfl) $$ [Hr HO]
  · isplitr; · iexact HF
    isplitl [Hr] <;> iassumption
  iintro ⟨Hr, HO, Hat, Hp⟩
  iapply (step_load_r m ρ c 2 2 rfl) $$ [Hat Hp Hd]
  · isplitl [Hat]; · iexact Hat
    isplitl [Hp] <;> iassumption
  iintro Hd
  iapply (step_load_w m c 3 1) $$ Hb1
  iintro Hb1
  iapply run_ret
  iapply Hk
  isplitl [HO]; · iexact HO
  isplitl [Ht]; · iexact Ht
  isplitl [Hw]; · iexact Hw
  isplitl [Hc0]; · iexact Hc0
  isplitl [Ha0]; · iexact Ha0
  isplitl [Hb1]; · iexact Hb1
  isplitl [Ha1]; · iexact Ha1
  isplitl [Hr]; · iexact Hr
  iexact Hd

/-- It is added. -/
theorem part10 (c : Dev nD) (v2 : BitVec 32) (v69 : BitVec 32) {Q : PUnit → sProp 𝕄} :
    iprop(facts m ρ ∗ ow c (owed c 7 7 0) ∗ wTodo c 5 ∗ wRest m c 4 ∗ cred (tallyAt (wC c 0) () Nw) ∗ wAt c 0 2 ∗ wbPts c 1 (wBuf m c 3) ∗ wAt c 1 2 ∗ oPts c (acc m ρ c 2))
      ⊢ iprop((ow c (owed c 7 7 0) ∗ wTodo c 6 ∗ wRest m c 5 ∗ cred (tallyAt (wC c 1) () Nw) ∗ wAt c 1 2 ∗ wbPts c 0 (wBuf m c 4) ∗ wAt c 0 3 ∗ oPts c (acc m ρ c 3) -∗ Q ⟨⟩)
        -∗ run c (k0_part10 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2 v69 (k0_pay4 (rin m ρ c 2) (win m c 3 1))) Q) := by
  simp only [k0_part10_eq_skeleton]; unfold k0_part10_skel
  simp only [semSignalWord, semWaitWord, Prog.lift, Prog.bind_op, Prog.bind_ret, Prog.pure_eq_ret]
  iintro ⟨#HF, HO, Ht, Hw, Hc0, Ha0, Hb1, Ha1, Ho⟩ Hk
  iapply (step_load_o c) $$ Ho
  iintro Ho
  iapply (step_load_o c) $$ Ho
  iintro Ho
  iapply (step_store_o c) $$ Ho
  iintro Ho
  ihave Ho := (Entails.of_eq (congrArg (oPts c) (show k0_pay5 (k0_pay4 (rin m ρ c 2) (win m c 3 1)) (acc m ρ c 2) = acc m ρ c 3 from (acc_succ m ρ c 2 2 rfl 3 rfl 1 rfl).symm))) $$ Ho
  iapply (step_wwait m ρ c 4 0 2 rfl) $$ [Hc0 Ha0 Hw HO]
  · isplitr; · iexact HF
    isplitl [Hc0]; · iexact Hc0
    isplitl [Ha0]; · iexact Ha0
    isplitl [Hw] <;> iassumption
  iintro ⟨Hw, Hb0, Ha0, HO⟩
  iapply (step_wstart m ρ c 5 5 rfl 1 2 rfl) $$ [Ht Hw Hb1 Ha1]
  · isplitr; · iexact HF
    isplitl [Ht]; · iexact Ht
    isplitl [Hw]; · iexact Hw
    isplitl [Hb1]; · iexists _; iexact Hb1
    iexact Ha1
  iintro ⟨Ht, Hw, Hc1, Ha1⟩
  iapply run_ret
  iapply Hk
  isplitl [HO]; · iexact HO
  isplitl [Ht]; · iexact Ht
  isplitl [Hw]; · iexact Hw
  isplitl [Hc1]; · iexact Hc1
  isplitl [Ha1]; · iexact Ha1
  isplitl [Hb0]; · iexact Hb0
  isplitl [Ha0]; · iexact Ha0
  iexact Ho

/-- The fourth source. -/
theorem part11 (c : Dev nD) (v2 : BitVec 32) {Q : PUnit → sProp 𝕄} :
    iprop(facts m ρ ∗ ow c (owed c 7 7 0) ∗ wTodo c 6 ∗ wRest m c 5 ∗ cred (tallyAt (wC c 1) () Nw) ∗ wAt c 1 2 ∗ wbPts c 0 (wBuf m c 4) ∗ wAt c 0 3 ∗ oPts c (acc m ρ c 3) ∗ waitTodo c rcvS Nx 3 ∗ waitDone c rcvS (fun j => rPts c j (rBuf m ρ c)) 3)
      ⊢ iprop((ow c (owed c 7 7 0) ∗ wTodo c 7 ∗ wRest m c 6 ∗ cred (tallyAt (wC c 0) () Nw) ∗ wAt c 0 3 ∗ wbPts c 1 (wBuf m c 5) ∗ wAt c 1 3 ∗ oPts c (acc m ρ c 4) ∗ waitTodo c rcvS Nx 4 ∗ waitDone c rcvS (fun j => rPts c j (rBuf m ρ c)) 4 -∗ Q ⟨⟩)
        -∗ run c (k0_part11 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2) Q) := by
  simp only [k0_part11_eq_skeleton]; unfold k0_part11_skel
  simp only [semSignalWord, semWaitWord, Prog.lift, Prog.bind_op, Prog.bind_ret, Prog.pure_eq_ret]
  iintro ⟨#HF, HO, Ht, Hw, Hc1, Ha1, Hb0, Ha0, Ho, Hr, Hd⟩ Hk
  iapply (step_accum m ρ c 3 3 rfl 4 rfl 0 rfl k0_pay6 rfl) $$ [Hr HO Hd Hb0 Ho]
  · isplitr; · iexact HF
    isplitl [Hr]; · iexact Hr
    isplitl [HO]; · iexact HO
    isplitl [Hd]; · iexact Hd
    isplitl [Hb0] <;> iassumption
  iintro ⟨Hr, HO, Hd, Hb0, Ho⟩
  iapply (step_wwait m ρ c 5 1 2 rfl) $$ [Hc1 Ha1 Hw HO]
  · isplitr; · iexact HF
    isplitl [Hc1]; · iexact Hc1
    isplitl [Ha1]; · iexact Ha1
    isplitl [Hw] <;> iassumption
  iintro ⟨Hw, Hb1, Ha1, HO⟩
  iapply (step_wstart m ρ c 6 6 rfl 0 3 rfl) $$ [Ht Hw Hb0 Ha0]
  · isplitr; · iexact HF
    isplitl [Ht]; · iexact Ht
    isplitl [Hw]; · iexact Hw
    isplitl [Hb0]; · iexists _; iexact Hb0
    iexact Ha0
  iintro ⟨Ht, Hw, Hc0, Ha0⟩
  iapply run_ret
  iapply Hk
  isplitl [HO]; · iexact HO
  isplitl [Ht]; · iexact Ht
  isplitl [Hw]; · iexact Hw
  isplitl [Hc0]; · iexact Hc0
  isplitl [Ha0]; · iexact Ha0
  isplitl [Hb1]; · iexact Hb1
  isplitl [Ha1]; · iexact Ha1
  isplitl [Ho]; · iexact Ho
  isplitl [Hr]; · iexact Hr
  iexact Hd

/-- The fifth source. -/
theorem part12 (c : Dev nD) (v2 : BitVec 32) (v81 : BitVec 32) {Q : BitVec 32 → sProp 𝕄} :
    iprop(facts m ρ ∗ ow c (owed c 7 7 0) ∗ wRest m c 6 ∗ cred (tallyAt (wC c 0) () Nw) ∗ wAt c 0 3 ∗ wbPts c 1 (wBuf m c 5) ∗ oPts c (acc m ρ c 4) ∗ waitTodo c rcvS Nx 4 ∗ waitDone c rcvS (fun j => rPts c j (rBuf m ρ c)) 4)
      ⊢ iprop((∀ v, ow c (owed c 7 7 0) ∗ wAll m c ∗ wbPts c 0 (wBuf m c 6) ∗ wAt c 0 4 ∗ wbPts c 1 (wBuf m c 5) ∗ oPts c (acc m ρ c 5) ∗ waitTodo c rcvS Nx 5 ∗ waitDone c rcvS (fun j => rPts c j (rBuf m ρ c)) 5 -∗ Q v)
        -∗ run c (k0_part12 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2 v81) Q) := by
  simp only [k0_part12_eq_skeleton]; unfold k0_part12_skel
  simp only [semSignalWord, semWaitWord, Prog.lift, Prog.bind_op, Prog.bind_ret, Prog.pure_eq_ret]
  iintro ⟨#HF, HO, Hw, Hc0, Ha0, Hb1, Ho, Hr, Hd⟩ Hk
  iapply (step_accum m ρ c 4 4 rfl 5 rfl 1 rfl k0_pay7 rfl) $$ [Hr HO Hd Hb1 Ho]
  · isplitr; · iexact HF
    isplitl [Hr]; · iexact Hr
    isplitl [HO]; · iexact HO
    isplitl [Hd]; · iexact Hd
    isplitl [Hb1] <;> iassumption
  iintro ⟨Hr, HO, Hd, Hb1, Ho⟩
  iapply (step_wwait m ρ c 6 0 3 rfl) $$ [Hc0 Ha0 Hw HO]
  · isplitr; · iexact HF
    isplitl [Hc0]; · iexact Hc0
    isplitl [Ha0]; · iexact Ha0
    isplitl [Hw] <;> iassumption
  iintro ⟨Hw, Hb0, Ha0, HO⟩
  iapply run_ret
  iapply Hk
  isplitl [HO]; · iexact HO
  isplitl [Hw]; · iexact Hw
  isplitl [Hb0]; · iexact Hb0
  isplitl [Ha0]; · iexact Ha0
  isplitl [Hb1]; · iexact Hb1
  isplitl [Ho]; · iexact Ho
  isplitl [Hr]; · iexact Hr
  iexact Hd

/-- The sixth source. -/
theorem part13 (c : Dev nD) (v2 : BitVec 32) (v93 : BitVec 32) (v331 : BitVec 32) {Q : PUnit → sProp 𝕄} :
    iprop(facts m ρ ∗ ow c (owed c 7 7 0) ∗ wTodo c 7 ∗ wAll m c ∗ wbPts c 0 (wBuf m c 6) ∗ wbPts c 1 (wBuf m c 5) ∗ wAt c 1 3 ∗ oPts c (acc m ρ c 5) ∗ waitTodo c rcvS Nx 5 ∗ waitDone c rcvS (fun j => rPts c j (rBuf m ρ c)) 5)
      ⊢ iprop((ow c (owed c 7 7 0) ∗ wTodo c 8 ∗ wRest m c 7 ∗ cred (tallyAt (wC c 1) () Nw) ∗ wAt c 1 3 ∗ wbPts c 0 (wBuf m c 6) ∗ oPts c (acc m ρ c 6) ∗ waitTodo c rcvS Nx 6 ∗ waitDone c rcvS (fun j => rPts c j (rBuf m ρ c)) 6 -∗ Q ⟨⟩)
        -∗ run c (k0_part13 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2 v93 v331) Q) := by
  simp only [k0_part13_eq_skeleton]; unfold k0_part13_skel
  simp only [semSignalWord, semWaitWord, Prog.lift, Prog.bind_op, Prog.bind_ret, Prog.pure_eq_ret]
  iintro ⟨#HF, HO, Ht, Hw, Hb0, Hb1, Ha1, Ho, Hr, Hd⟩ Hk
  iapply (step_wstart m ρ c 7 7 rfl 1 3 rfl) $$ [Ht Hw Hb1 Ha1]
  · isplitr; · iexact HF
    isplitl [Ht]; · iexact Ht
    isplitl [Hw]; · iexact Hw
    isplitl [Hb1]; · iexists _; iexact Hb1
    iexact Ha1
  iintro ⟨Ht, Hw, Hc1, Ha1⟩
  iapply (step_accum m ρ c 5 5 rfl 6 rfl 0 rfl k0_pay8 rfl) $$ [Hr HO Hd Hb0 Ho]
  · isplitr; · iexact HF
    isplitl [Hr]; · iexact Hr
    isplitl [HO]; · iexact HO
    isplitl [Hd]; · iexact Hd
    isplitl [Hb0] <;> iassumption
  iintro ⟨Hr, HO, Hd, Hb0, Ho⟩
  iapply run_ret
  iapply Hk
  isplitl [HO]; · iexact HO
  isplitl [Ht]; · iexact Ht
  isplitl [Hw]; · iexact Hw
  isplitl [Hc1]; · iexact Hc1
  isplitl [Ha1]; · iexact Ha1
  isplitl [Hb0]; · iexact Hb0
  isplitl [Ho]; · iexact Ho
  isplitl [Hr]; · iexact Hr
  iexact Hd

/-- The last source, and the bound below by zero. -/
theorem part14 (c : Dev nD) (v105 : BitVec 32) {Q : PUnit → sProp 𝕄} :
    iprop(facts m ρ ∗ ow c (owed c 7 7 0) ∗ wRest m c 7 ∗ cred (tallyAt (wC c 1) () Nw) ∗ wAt c 1 3 ∗ oPts c (acc m ρ c 6) ∗ waitTodo c rcvS Nx 6 ∗ waitDone c rcvS (fun j => rPts c j (rBuf m ρ c)) 6)
      ⊢ iprop((ow c (owed c 7 7 0) ∗ wAll m c ∗ wbPts c 1 (wBuf m c 7) ∗ wAt c 1 4 ∗ oPts c (rel m ρ c) ∗ waitTodo c rcvS Nx 7 ∗ waitDone c rcvS (fun j => rPts c j (rBuf m ρ c)) 7 -∗ Q ⟨⟩)
        -∗ run c (k0_part14 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v105) Q) := by
  simp only [k0_part14_eq_skeleton]; unfold k0_part14_skel
  simp only [semSignalWord, semWaitWord, Prog.lift, Prog.bind_op, Prog.bind_ret, Prog.pure_eq_ret]
  iintro ⟨#HF, HO, Hw, Hc1, Ha1, Ho, Hr, Hd⟩ Hk
  iapply (step_wwait m ρ c 7 1 3 rfl) $$ [Hc1 Ha1 Hw HO]
  · isplitr; · iexact HF
    isplitl [Hc1]; · iexact Hc1
    isplitl [Ha1]; · iexact Ha1
    isplitl [Hw] <;> iassumption
  iintro ⟨Hw, Hb1, Ha1, HO⟩
  iapply (step_accum m ρ c 6 6 rfl 7 rfl 1 rfl k0_pay9 rfl) $$ [Hr HO Hd Hb1 Ho]
  · isplitr; · iexact HF
    isplitl [Hr]; · iexact Hr
    isplitl [HO]; · iexact HO
    isplitl [Hd]; · iexact Hd
    isplitl [Hb1] <;> iassumption
  iintro ⟨Hr, HO, Hd, Hb1, Ho⟩
  iapply (step_load_o c) $$ Ho
  iintro Ho
  iapply (step_load_o c) $$ Ho
  iintro Ho
  iapply (step_store_o c) $$ Ho
  iintro Ho
  iapply run_ret
  iapply Hk
  isplitl [HO]; · iexact HO
  isplitl [Hw]; · iexact Hw
  isplitl [Hb1]; · iexact Hb1
  isplitl [Ha1]; · iexact Ha1
  isplitl [Ho]; · iexact Ho
  isplitl [Hr]; · iexact Hr
  iexact Hd

end Cert.KernelIdealProof
-- ==== Proof.BodyC.lean ====
/-
The parts of the kernel that exchange the maxima: the device's maximum is sent to every peer, the peers' maxima are
taken, and the transfers that left are awaited.
-/
module

public import proofs.«01_k».proof.Proof.BodyB

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The vector of maxima is dealt to the transfers -/

/-- The vector of maxima makes, with the duties and the peers' slots, all the transfers of maxima. -/
theorem asnd_all (c : Dev nD) : iprop(asndToks c ∗ asAll c (amaxV m ρ c) ∗ peerA (F := F) c) ⊢ asndTodo m ρ c 0 := by
  have e : (asAll c (amaxV m ρ c) : sProp 𝕄) = bigSep Finset.univ fun j => asPts m ρ c j := by
    unfold asAll asPts
    rw [View.set_whole]
    exact Transfers.pointsTo_deal Finset.univ ⟨0, Finset.mem_univ _⟩ fullShare
  rw [e]
  unfold asndToks asndTodo peerA asndItem
  rw [Ring.rangeSet_univ]
  simp only [bigSep_sep']
  iintro ⟨⟨H1, H2⟩, Hx, Ha⟩
  isplitl [H1]; · iexact H1
  isplitl [H2]; · iexact H2
  isplitl [Hx] <;> iassumption

theorem asndCred_zero (c : Dev nD) : asndCred (F := F) c 0 = iprop(emp) := Ring.bigSep_rangeSet_empty (le_refl 0)

/-- Source `j`'s maximum lands and is read. -/
theorem step_take {α : Type} {Q : α → sProp 𝕄} (c : Dev nD) (j : Fin 7) (n : ℕ) (hj : j.val = n) {k : Vec F S1x1x1 .f32 → Prog (TpuEff nD τ sig (Elt F) Λ₀ .tc) α}
    {src : Memref sig .tc .vmem S1x128 .f32} {hsrc : src.view.WordExact} {hdst : (aSlot j).view.WordExact}
    {hl : arM.view.LoadsAt (Rect.unit (s := S7x1x128) ![j.val, 0, 0] S1x1x1.size (inb_am j)).toLoadRect} :
    iprop(facts m ρ ∗ waitTodo c arcvS Na n ∗ ow c (owed c 7 7 7) ∗ waitDone c arcvS (fun j => aPts c j (aBuf m ρ c)) n)
      ⊢ iprop((waitTodo c arcvS Na (n + 1) ∗ ow c (owed c 7 7 7) ∗ waitDone c arcvS (fun j => aPts c j (aBuf m ρ c)) (n + 1) -∗ run c (k (ain m ρ c j)) Q)
        -∗ run c (.op (.waitDma2 (arcvS j) src (aSlot j) hsrc hdst) fun _ =>
          .op (.load arM (Rect.unit (s := S7x1x128) ![j.val, 0, 0] S1x1x1.size (inb_am j)).toLoadRect hl) k) Q) := by
  iintro ⟨#HF, Hr, HO, Hd⟩ Hk
  iapply (step_arecv m ρ c j n hj) $$ [Hr HO]
  · isplitr; · iexact HF
    isplitl [Hr] <;> iassumption
  iintro ⟨Hr, HO, Hat, Hp⟩
  iapply (step_load_a m ρ c j n hj) $$ [Hat Hp Hd]
  · isplitl [Hat]; · iexact Hat
    isplitl [Hp] <;> iassumption
  iintro Hd
  iapply Hk
  isplitl [Hr]; · iexact Hr
  isplitl [HO] <;> iassumption

/-! ## The parts -/

/-- The device's maximum, and its first two transfers. -/
theorem part15 (c : Dev nD) (v2 : BitVec 32) {Q : (Σ' (v390 : F .f32) (v396 : BitVec 32) (v406 : BitVec 32), BitVec 32) → sProp 𝕄} :
    iprop(facts m ρ ∗ ow c (owed c 7 7 0) ∗ oPts c (rel m ρ c) ∗ (∃ f, asAll c f) ∗ asndToks c ∗ peerA c)
      ⊢ iprop((∀ v396 v406 v416, ow c (owed c 7 7 2) ∗ asndTodo m ρ c 2 ∗ asndCred c 2 ∗ oPts c (rel m ρ c) -∗ Q ⟨k0_pay11 (rel m ρ c), v396, v406, v416⟩)
        -∗ run c (k0_part15 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2) Q) := by
  simp only [k0_part15_eq_skeleton]; unfold k0_part15_skel
  simp only [semSignalWord, semWaitWord, Prog.lift, Prog.bind_op, Prog.bind_ret, Prog.pure_eq_ret]
  iintro ⟨#HF, HO, Ho, Hs, Htok, Hpa⟩ Hk
  iapply (step_load_o c) $$ Ho
  iintro Ho
  icases Hs with ⟨%f, Hs⟩
  iapply (step_load_as c) $$ Hs
  iintro Hs
  iapply (step_store_as c) $$ Hs
  iintro Hs
  ihave Hx := (asnd_all m ρ c) $$ [Htok Hs Hpa]
  · isplitl [Htok]; · iexact Htok
    isplitl [Hs]; · iexact Hs
    iexact Hpa
  ihave Hc := (Entails.of_eq (asndCred_zero (F := F) c).symm) $$ []
  · iempintro
  iapply (step_asend m ρ c 0 0 rfl _ (dev15 c)) $$ [Hx Hc HO]
  · isplitr; · iexact HF
    isplitl [Hx]; · iexact Hx
    isplitl [Hc] <;> iassumption
  iintro ⟨Hx, Hc, HO⟩
  iapply (step_asend m ρ c 1 1 rfl _ (dev16 c)) $$ [Hx Hc HO]
  · isplitr; · iexact HF
    isplitl [Hx]; · iexact Hx
    isplitl [Hc] <;> iassumption
  iintro ⟨Hx, Hc, HO⟩
  iapply run_ret
  iapply Hk
  isplitl [HO]; · iexact HO
  isplitl [Hx]; · iexact Hx
  isplitl [Hc]; · iexact Hc
  iexact Ho

/-- Three more transfers. -/
theorem part16 (c : Dev nD) (v2 : BitVec 32) (v416 : BitVec 32) {Q : (Σ' (v426 : BitVec 32) (v436 : BitVec 32), BitVec 32) → sProp 𝕄} :
    iprop(facts m ρ ∗ ow c (owed c 7 7 2) ∗ asndTodo m ρ c 2 ∗ asndCred c 2)
      ⊢ iprop((∀ v426 v436 v446, ow c (owed c 7 7 5) ∗ asndTodo m ρ c 5 ∗ asndCred c 5 -∗ Q ⟨v426, v436, v446⟩)
        -∗ run c (k0_part16 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2 v416) Q) := by
  simp only [k0_part16_eq_skeleton]; unfold k0_part16_skel
  simp only [semSignalWord, semWaitWord, Prog.lift, Prog.bind_op, Prog.bind_ret, Prog.pure_eq_ret]
  iintro ⟨#HF, HO, Hx, Hc⟩ Hk
  iapply (step_asend m ρ c 2 2 rfl _ (dev17 c)) $$ [Hx Hc HO]
  · isplitr; · iexact HF
    isplitl [Hx]; · iexact Hx
    isplitl [Hc] <;> iassumption
  iintro ⟨Hx, Hc, HO⟩
  iapply (step_asend m ρ c 3 3 rfl _ (dev18 c)) $$ [Hx Hc HO]
  · isplitr; · iexact HF
    isplitl [Hx]; · iexact Hx
    isplitl [Hc] <;> iassumption
  iintro ⟨Hx, Hc, HO⟩
  iapply (step_asend m ρ c 4 4 rfl _ (dev19 c)) $$ [Hx Hc HO]
  · isplitr; · iexact HF
    isplitl [Hx]; · iexact Hx
    isplitl [Hc] <;> iassumption
  iintro ⟨Hx, Hc, HO⟩
  iapply run_ret
  iapply Hk
  isplitl [HO]; · iexact HO
  isplitl [Hx]; · iexact Hx
  iexact Hc

/-- The last two transfers, and the first source's maximum. -/
theorem part17 (c : Dev nD) (v2 : BitVec 32) (v390 : F .f32) (v396 : BitVec 32) (v406 : BitVec 32) (v446 : BitVec 32) {Q : (Σ' (v456 : BitVec 32) (v473 : F .f32), BitVec 32) → sProp 𝕄} :
    iprop(facts m ρ ∗ ow c (owed c 7 7 5) ∗ asndTodo m ρ c 5 ∗ asndCred c 5 ∗ waitTodo c arcvS Na 0 ∗ waitDone c arcvS (fun j => aPts c j (aBuf m ρ c)) 0)
      ⊢ iprop((∀ v456 v474, ow c (owed c 7 7 7) ∗ asndCred c 7 ∗ waitTodo c arcvS Na 1 ∗ waitDone c arcvS (fun j => aPts c j (aBuf m ρ c)) 1 -∗ Q ⟨v456, k0_pay13 v390 (ain m ρ c 0), v474⟩)
        -∗ run c (k0_part17 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c v2 v390 v396 v406 v446) Q) := by
  simp only [k0_part17_eq_skeleton]; unfold k0_part17_skel
  simp only [semSignalWord, semWaitWord, Prog.lift, Prog.bind_op, Prog.bind_ret, Prog.pure_eq_ret]
  iintro ⟨#HF, HO, Hx, Hc, Hr, Hd⟩ Hk
  iapply (step_asend m ρ c 5 5 rfl _ (dev20 c)) $$ [Hx Hc HO]
  · isplitr; · iexact HF
    isplitl [Hx]; · iexact Hx
    isplitl [Hc] <;> iassumption
  iintro ⟨Hx, Hc, HO⟩
  iapply (step_asend m ρ c 6 6 rfl _ (dev21 c)) $$ [Hx Hc HO]
  · isplitr; · iexact HF
    isplitl [Hx]; · iexact Hx
    isplitl [Hc] <;> iassumption
  iintro ⟨Hx, Hc, HO⟩
  iapply (step_take m ρ c 0 0 rfl) $$ [Hr HO Hd]
  · isplitr; · iexact HF
    isplitl [Hr]; · iexact Hr
    isplitl [HO] <;> iassumption
  iintro ⟨Hr, HO, Hd⟩
  iapply run_ret
  iapply Hk
  isplitl [HO]; · iexact HO
  isplitl [Hc]; · iexact Hc
  isplitl [Hr]; · iexact Hr
  iexact Hd

/-- Three sources' maxima. -/
theorem part18 (c : Dev nD) (v416 : BitVec 32) (v426 : BitVec 32) (v436 : BitVec 32) (v473 : F .f32) (v474 : BitVec 32) {Q : (Σ' (v500 : F .f32), BitVec 32) → sProp 𝕄} :
    iprop(facts m ρ ∗ ow c (owed c 7 7 7) ∗ waitTodo c arcvS Na 1 ∗ waitDone c arcvS (fun j => aPts c j (aBuf m ρ c)) 1)
      ⊢ iprop((∀ v501, ow c (owed c 7 7 7) ∗ waitTodo c arcvS Na 4 ∗ waitDone c arcvS (fun j => aPts c j (aBuf m ρ c)) 4 -∗ Q ⟨k0_pay14 v473 (ain m ρ c 1) (ain m ρ c 2) (ain m ρ c 3), v501⟩)
        -∗ run c (k0_part18 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          v416 v426 v436 v473 v474) Q) := by
  simp only [k0_part18_eq_skeleton]; unfold k0_part18_skel
  simp only [semSignalWord, semWaitWord, Prog.lift, Prog.bind_op, Prog.bind_ret, Prog.pure_eq_ret]
  iintro ⟨#HF, HO, Hr, Hd⟩ Hk
  iapply (step_take m ρ c 1 1 rfl) $$ [Hr HO Hd]
  · isplitr; · iexact HF
    isplitl [Hr]; · iexact Hr
    isplitl [HO] <;> iassumption
  iintro ⟨Hr, HO, Hd⟩
  iapply (step_take m ρ c 2 2 rfl) $$ [Hr HO Hd]
  · isplitr; · iexact HF
    isplitl [Hr]; · iexact Hr
    isplitl [HO] <;> iassumption
  iintro ⟨Hr, HO, Hd⟩
  iapply (step_take m ρ c 3 3 rfl) $$ [Hr HO Hd]
  · isplitr; · iexact HF
    isplitl [Hr]; · iexact Hr
    isplitl [HO] <;> iassumption
  iintro ⟨Hr, HO, Hd⟩
  iapply run_ret
  iapply Hk
  isplitl [HO]; · iexact HO
  isplitl [Hr]; · iexact Hr
  iexact Hd

/-- The last three. -/
theorem part19 (c : Dev nD) (v446 : BitVec 32) (v456 : BitVec 32) (v500 : F .f32) (v501 : BitVec 32) {Q : F .f32 → sProp 𝕄} :
    iprop(facts m ρ ∗ ow c (owed c 7 7 7) ∗ waitTodo c arcvS Na 4 ∗ waitDone c arcvS (fun j => aPts c j (aBuf m ρ c)) 4)
      ⊢ iprop((ow c (owed c 7 7 7) ∗ waitTodo c arcvS Na 7 ∗ waitDone c arcvS (fun j => aPts c j (aBuf m ρ c)) 7 -∗ Q (k0_pay15 v500 (ain m ρ c 4) (ain m ρ c 5) (ain m ρ c 6)))
        -∗ run c (k0_part19 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          v446 v456 v500 v501) Q) := by
  simp only [k0_part19_eq_skeleton]; unfold k0_part19_skel
  simp only [semSignalWord, semWaitWord, Prog.lift, Prog.bind_op, Prog.bind_ret, Prog.pure_eq_ret]
  iintro ⟨#HF, HO, Hr, Hd⟩ Hk
  iapply (step_take m ρ c 4 4 rfl) $$ [Hr HO Hd]
  · isplitr; · iexact HF
    isplitl [Hr]; · iexact Hr
    isplitl [HO] <;> iassumption
  iintro ⟨Hr, HO, Hd⟩
  iapply (step_take m ρ c 5 5 rfl) $$ [Hr HO Hd]
  · isplitr; · iexact HF
    isplitl [Hr]; · iexact Hr
    isplitl [HO] <;> iassumption
  iintro ⟨Hr, HO, Hd⟩
  iapply (step_take m ρ c 6 6 rfl) $$ [Hr HO Hd]
  · isplitr; · iexact HF
    isplitl [Hr]; · iexact Hr
    isplitl [HO] <;> iassumption
  iintro ⟨Hr, HO, Hd⟩
  iapply run_ret
  iapply Hk
  isplitl [HO]; · iexact HO
  isplitl [Hr]; · iexact Hr
  iexact Hd

/-- Five transfers of rows have left. -/
theorem part20 (c : Dev nD)  {Q : PUnit → sProp 𝕄} :
    iprop(facts m ρ ∗ ow c (owed c 7 7 7) ∗ waitTodo c sndS Nx 0 ∗ waitDone c sndS (xPts m ρ c) 0)
      ⊢ iprop((ow c (owed c 7 7 7) ∗ waitTodo c sndS Nx 5 ∗ waitDone c sndS (xPts m ρ c) 5 -∗ Q ⟨⟩)
        -∗ run c (k0_part20 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c ) Q) := by
  simp only [k0_part20_eq_skeleton]; unfold k0_part20_skel
  simp only [semSignalWord, semWaitWord, Prog.lift, Prog.bind_op, Prog.bind_ret, Prog.pure_eq_ret]
  iintro ⟨#HF, HO, Hr, Hd⟩ Hk
  iapply (step_sent m ρ c 0 0 rfl) $$ [Hr HO Hd]
  · isplitr; · iexact HF
    isplitl [Hr]; · iexact Hr
    isplitl [HO] <;> iassumption
  iintro ⟨Hr, HO, Hd⟩
  iapply (step_sent m ρ c 1 1 rfl) $$ [Hr HO Hd]
  · isplitr; · iexact HF
    isplitl [Hr]; · iexact Hr
    isplitl [HO] <;> iassumption
  iintro ⟨Hr, HO, Hd⟩
  iapply (step_sent m ρ c 2 2 rfl) $$ [Hr HO Hd]
  · isplitr; · iexact HF
    isplitl [Hr]; · iexact Hr
    isplitl [HO] <;> iassumption
  iintro ⟨Hr, HO, Hd⟩
  iapply (step_sent m ρ c 3 3 rfl) $$ [Hr HO Hd]
  · isplitr; · iexact HF
    isplitl [Hr]; · iexact Hr
    isplitl [HO] <;> iassumption
  iintro ⟨Hr, HO, Hd⟩
  iapply (step_sent m ρ c 4 4 rfl) $$ [Hr HO Hd]
  · isplitr; · iexact HF
    isplitl [Hr]; · iexact Hr
    isplitl [HO] <;> iassumption
  iintro ⟨Hr, HO, Hd⟩
  iapply run_ret
  iapply Hk
  isplitl [HO]; · iexact HO
  isplitl [Hr]; · iexact Hr
  iexact Hd

/-- The last two, and three of the maxima. -/
theorem part21 (c : Dev nD)  {Q : PUnit → sProp 𝕄} :
    iprop(facts m ρ ∗ ow c (owed c 7 7 7) ∗ waitTodo c sndS Nx 5 ∗ waitDone c sndS (xPts m ρ c) 5 ∗ waitTodo c asndS Na 0 ∗ waitDone c asndS (asPts m ρ c) 0)
      ⊢ iprop((ow c (owed c 7 7 7) ∗ waitTodo c sndS Nx 7 ∗ waitDone c sndS (xPts m ρ c) 7 ∗ waitTodo c asndS Na 3 ∗ waitDone c asndS (asPts m ρ c) 3 -∗ Q ⟨⟩)
        -∗ run c (k0_part21 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          c ) Q) := by
  simp only [k0_part21_eq_skeleton]; unfold k0_part21_skel
  simp only [semSignalWord, semWaitWord, Prog.lift, Prog.bind_op, Prog.bind_ret, Prog.pure_eq_ret]
  iintro ⟨#HF, HO, Hr, Hd, Hs, He⟩ Hk
  iapply (step_sent m ρ c 5 5 rfl) $$ [Hr HO Hd]
  · isplitr; · iexact HF
    isplitl [Hr]; · iexact Hr
    isplitl [HO] <;> iassumption
  iintro ⟨Hr, HO, Hd⟩
  iapply (step_sent m ρ c 6 6 rfl) $$ [Hr HO Hd]
  · isplitr; · iexact HF
    isplitl [Hr]; · iexact Hr
    isplitl [HO] <;> iassumption
  iintro ⟨Hr, HO, Hd⟩
  iapply (step_asent m ρ c 0 0 rfl) $$ [Hs HO He]
  · isplitr; · iexact HF
    isplitl [Hs]; · iexact Hs
    isplitl [HO] <;> iassumption
  iintro ⟨Hs, HO, He⟩
  iapply (step_asent m ρ c 1 1 rfl) $$ [Hs HO He]
  · isplitr; · iexact HF
    isplitl [Hs]; · iexact Hs
    isplitl [HO] <;> iassumption
  iintro ⟨Hs, HO, He⟩
  iapply (step_asent m ρ c 2 2 rfl) $$ [Hs HO He]
  · isplitr; · iexact HF
    isplitl [Hs]; · iexact Hs
    isplitl [HO] <;> iassumption
  iintro ⟨Hs, HO, He⟩
  iapply run_ret
  iapply Hk
  isplitl [HO]; · iexact HO
  isplitl [Hr]; · iexact Hr
  isplitl [Hd]; · iexact Hd
  isplitl [Hs]; · iexact Hs
  iexact He

/-- The other four, and the result. -/
theorem part22 (c : Dev nD) (v527 : F .f32) {Q : FVec F S512x2048 .f32 → sProp 𝕄} :
    iprop(facts m ρ ∗ ow c (owed c 7 7 7) ∗ waitTodo c asndS Na 3 ∗ waitDone c asndS (asPts m ρ c) 3 ∗ oPts c (rel m ρ c))
      ⊢ iprop((ow c (owed c 7 7 7) ∗ waitTodo c asndS Na 7 ∗ waitDone c asndS (asPts m ρ c) 7 ∗ oPts c (rel m ρ c) -∗ Q (k0_pay16 v527 (rel m ρ c)))
        -∗ run c (k0_part22 xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8
          v527) Q) := by
  simp only [k0_part22_eq_skeleton]; unfold k0_part22_skel
  simp only [semSignalWord, semWaitWord, Prog.lift, Prog.bind_op, Prog.bind_ret, Prog.pure_eq_ret]
  iintro ⟨#HF, HO, Hs, He, Ho⟩ Hk
  iapply (step_asent m ρ c 3 3 rfl) $$ [Hs HO He]
  · isplitr; · iexact HF
    isplitl [Hs]; · iexact Hs
    isplitl [HO] <;> iassumption
  iintro ⟨Hs, HO, He⟩
  iapply (step_asent m ρ c 4 4 rfl) $$ [Hs HO He]
  · isplitr; · iexact HF
    isplitl [Hs]; · iexact Hs
    isplitl [HO] <;> iassumption
  iintro ⟨Hs, HO, He⟩
  iapply (step_asent m ρ c 5 5 rfl) $$ [Hs HO He]
  · isplitr; · iexact HF
    isplitl [Hs]; · iexact Hs
    isplitl [HO] <;> iassumption
  iintro ⟨Hs, HO, He⟩
  iapply (step_asent m ρ c 6 6 rfl) $$ [Hs HO He]
  · isplitr; · iexact HF
    isplitl [Hs]; · iexact Hs
    isplitl [HO] <;> iassumption
  iintro ⟨Hs, HO, He⟩
  iapply (step_load_o c) $$ Ho
  iintro Ho
  iapply run_ret
  iapply Hk
  isplitl [HO]; · iexact HO
  isplitl [Hs]; · iexact Hs
  isplitl [He]; · iexact He
  iexact Ho

end Cert.KernelIdealProof
-- ==== Proof.Cells.lean ====
/-
A device's semaphores listed by kind, and its buffers cut into slots and joined again.
-/
module

public import proofs.«01_k».proof.Proof.BodyC

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's semaphores by kind -/

/-- Where a DMA semaphore the kernel declares stands in the list of its semaphores. -/
abbrev kidx (q : DmaSem sig) (hq : 2 ≤ q.val) : Fin 31 := ⟨q.val - 1, by have h : q.val < 32 := q.isLt; omega⟩

theorem kcell_kidx (c : Dev nD) (q : DmaSem sig) (hq : 2 ≤ q.val) : kcell (c, kidx q hq) = ((c : Thread nD τ), SemLoc.dma q) :=
  Prod.ext rfl (csem_dma q hq)

theorem wS_le (s : Fin 2) : 2 ≤ (wS s).val := by rw [wS_val]; omega
theorem sndS_le (j : Fin 7) : 2 ≤ (sndS j).val := by rw [sndS_val]; omega
theorem rcvS_le (j : Fin 7) : 2 ≤ (rcvS j).val := by rw [rcvS_val]; omega
theorem asndS_le (j : Fin 7) : 2 ≤ (asndS j).val := by rw [asndS_val]; omega
theorem arcvS_le (j : Fin 7) : 2 ≤ (arcvS j).val := by rw [arcvS_val]; omega

/-- The kinds of semaphore: the barrier, the weights', and the four families of seven. -/
abbrev Kinds : Type := Unit ⊕ Fin 2 ⊕ Fin 7 ⊕ Fin 7 ⊕ Fin 7 ⊕ Fin 7

def kindIdx : Kinds → Fin 31
  | .inl _ => 0
  | .inr (.inl s) => kidx (wS s) (wS_le s)
  | .inr (.inr (.inl j)) => kidx (sndS j) (sndS_le j)
  | .inr (.inr (.inr (.inl j))) => kidx (rcvS j) (rcvS_le j)
  | .inr (.inr (.inr (.inr (.inl j)))) => kidx (asndS j) (asndS_le j)
  | .inr (.inr (.inr (.inr (.inr j)))) => kidx (arcvS j) (arcvS_le j)

theorem kindIdx_bijective : Function.Bijective kindIdx := by decide

def kindEquiv : Kinds ≃ Fin 31 := Equiv.ofBijective kindIdx kindIdx_bijective

/-- An assertion about all the kernel's semaphores of a device, kind by kind. -/
theorem cells_split (c : Dev nD) (Φ : GSem nD τ sig → sProp 𝕄) :
    (bigSep Finset.univ fun k : Fin 31 => Φ (kcell (c, k)))
      = iprop(Φ (barC c) ∗ (Φ (wC c 0) ∗ Φ (wC c 1)) ∗ (bigSep Finset.univ fun j => Φ (sndC c j)) ∗ (bigSep Finset.univ fun j => Φ (rcvC c j))
          ∗ (bigSep Finset.univ fun j => Φ (asndC c j)) ∗ bigSep Finset.univ fun j => Φ (arcvC c j)) := by
  rw [bigSep_univ_equiv kindEquiv, BI.bigSep_univ_sum, BI.bigSep_univ_sum, BI.bigSep_univ_sum, BI.bigSep_univ_sum, BI.bigSep_univ_sum]
  have hq : ∀ (q : DmaSem sig) (hq : 2 ≤ q.val), Φ (kcell (c, kidx q hq)) = Φ ((c : Thread nD τ), SemLoc.dma q) := fun q hq => congrArg Φ (kcell_kidx c q hq)
  have hu : (bigSep Finset.univ fun a : Unit => Φ (kcell (c, kindEquiv (Sum.inl a)))) = Φ (barC c) :=
    (bigSep_singleton (i := ()) (Φ := fun a : Unit => Φ (kcell (c, kindEquiv (Sum.inl a)))))
  rw [hu, bigSep_univ_two]
  refine congrArg₂ _ rfl (congrArg₂ _ (congrArg₂ _ (hq _ (wS_le 0)) (hq _ (wS_le 1))) (congrArg₂ _ ?_ (congrArg₂ _ ?_ (congrArg₂ _ ?_ ?_))))
  · exact bigSep_congr fun j _ => hq (sndS j) (sndS_le j)
  · exact bigSep_congr fun j _ => hq (rcvS j) (rcvS_le j)
  · exact bigSep_congr fun j _ => hq (asndS j) (asndS_le j)
  · exact bigSep_congr fun j _ => hq (arcvS j) (arcvS_le j)

/-! ## Semaphores that are done with -/

/-- A DMA semaphore whose rounds are over is at zero, and the device's again. -/
theorem close_dma (c : Dev nD) (q : DmaSem sig) (hq : 2 ≤ q.val) (R : ℕ) (hR : kRounds (dec q.val) ≤ R) :
    iprop(facts m ρ ∗ atPos ER ((c : Thread nD τ), .dma q) R (∅ : Finset (Fin 7)) 0) ⊢ (|={Set.univ}=> semVal ((c : Thread nD τ), SemLoc.dma q) 0 : sProp 𝕄) := by
  iintro ⟨#HF, Hat⟩
  ihave HB := facts_dma m ρ c q hq $$ HF
  icases HB with ⟨%κ, #HI, -⟩
  iapply (Rounds.cell_close ER (Sched m ρ) (Set.mem_univ κ) (fun h => h) (R := R) (fun r hr => later_dma m ρ c q r (hR.trans hr)))
  isplitr; · iexact HI
  iexact Hat

/-- So is the barrier's. -/
theorem close_bar (c : Dev nD) : iprop(facts m ρ ∗ atPos ER (barC c) 1 (∅ : Finset (Fin 7)) 0) ⊢ (|={Set.univ}=> semVal (barC c) 0 : sProp 𝕄) := by
  iintro ⟨#HF, Hat⟩
  ihave HB := facts_bar m ρ c $$ HF
  icases HB with ⟨%κ, #HI, -⟩
  iapply (Rounds.cell_close ER (Sched m ρ) (Set.mem_univ κ) (fun h => h) (R := 1) (later_bar m ρ c))
  isplitr; · iexact HI
  iexact Hat

/-- A family of assertions, each from a shared fact and a share. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  iintro ⟨#HR, HS⟩
  ihave HRs := (BI.bigSep_of_persistent S R) $$ HR
  iapply ((Entails.of_eq (bigSep_sep' S (fun _ => R) Φ).symm).trans (BI.bigSep_mono h))
  isplitl [HRs] <;> iassumption

theorem close_all (c : Dev nD) (q : Fin 7 → DmaSem sig) (hq : ∀ j, 2 ≤ (q j).val) (hR : ∀ j, kRounds (dec (q j).val) ≤ 1) :
    iprop(facts m ρ ∗ bigSep Finset.univ fun j => atPos ER ((c : Thread nD τ), .dma (q j)) 1 (∅ : Finset (Fin 7)) 0)
      ⊢ (|={Set.univ}=> bigSep Finset.univ fun j => semVal ((c : Thread nD τ), SemLoc.dma (q j)) 0 : sProp 𝕄) :=
  (bigSep_with fun j _ => close_dma m ρ c (q j) (hq j) 1 (hR j)).trans (bigSep_fupd _ _)

/-- Every wait of a family done: its semaphores are at zero and what came in is held. -/
theorem done_all (c : Dev nD) (q : Fin 7 → DmaSem sig) (P : Fin 7 → sProp 𝕄) (hq : ∀ j, 2 ≤ (q j).val) (hR : ∀ j, kRounds (dec (q j).val) ≤ 1) :
    iprop(facts m ρ ∗ waitDone c q P 7) ⊢ (|={Set.univ}=> iprop((bigSep Finset.univ fun j => semVal ((c : Thread nD τ), SemLoc.dma (q j)) 0) ∗ bigSep Finset.univ P) : sProp 𝕄) := by
  unfold waitDone
  rw [Ring.rangeSet_univ, bigSep_sep']
  iintro ⟨#HF, Hat, HP⟩
  imod (close_all m ρ c q hq hR) $$ [Hat] with Hz
  · isplitr; · iexact HF
    iexact Hat
  imodintro
  isplitl [Hz] <;> iassumption

/-! ## Buffers by slots -/

abbrev bufAt (c : Dev nD) (b : Ref sig .tc) : sProp 𝕄 := iprop(∃ f : Buf (Elt F) ((c : Thread nD τ).loc b), ((c : Thread nD τ).loc b) ↦{fullShare} f)

abbrev rK (j : Fin 7) : Finset S7x512x512.Idx := (rSlot j).view.set
theorem rK_disj (j j' : Fin 7) (h : j ≠ j') : Disjoint (rK j) (rK j') :=
  Finset.disjoint_left.mpr fun i hi hi' => h (Fin.ext (((mem_rSlot j i).mp hi).symm.trans ((mem_rSlot j' i).mp hi')))
theorem rK_cover : (Finset.univ.biUnion rK) = Finset.univ :=
  Finset.eq_univ_iff_forall.mpr fun i => Finset.mem_biUnion.mpr ⟨(i 0 : Fin 7), Finset.mem_univ _, (mem_rSlot (i 0 : Fin 7) i).mpr rfl⟩
theorem r_blocks (c : Dev nD) (f : Buf (Elt F) ((c : Thread nD τ).loc cc0_scratch1)) :
    (((c : Thread nD τ).loc cc0_scratch1) ↦{fullShare} f : sProp 𝕄) = bigSep Finset.univ fun j => rPts c j f :=
  Ring.pointsTo_blocks (ℓ := (c : Thread nD τ).loc cc0_scratch1) rK rK_disj rK_cover f

abbrev aK (j : Fin 7) : Finset S7x1x128.Idx := (aSlot j).view.set
theorem aK_disj (j j' : Fin 7) (h : j ≠ j') : Disjoint (aK j) (aK j') :=
  Finset.disjoint_left.mpr fun i hi hi' => h (Fin.ext (((mem_aSlot j i).mp hi).symm.trans ((mem_aSlot j' i).mp hi')))
theorem aK_cover : (Finset.univ.biUnion aK) = Finset.univ :=
  Finset.eq_univ_iff_forall.mpr fun i => Finset.mem_biUnion.mpr ⟨(i 0 : Fin 7), Finset.mem_univ _, (mem_aSlot (i 0 : Fin 7) i).mpr rfl⟩
theorem a_blocks (c : Dev nD) (f : Buf (Elt F) ((c : Thread nD τ).loc cc0_scratch3)) :
    (((c : Thread nD τ).loc cc0_scratch3) ↦{fullShare} f : sProp 𝕄) = bigSep Finset.univ fun j => aPts c j f :=
  Ring.pointsTo_blocks (ℓ := (c : Thread nD τ).loc cc0_scratch3) aK aK_disj aK_cover f

abbrev wK (j : Fin 2) : Finset S2x512x2048.Idx := (wSlot j).view.set
theorem wK_disj (j j' : Fin 2) (h : j ≠ j') : Disjoint (wK j) (wK j') :=
  Finset.disjoint_left.mpr fun i hi hi' => h (Fin.ext (((mem_wSlot j i).mp hi).symm.trans ((mem_wSlot j' i).mp hi')))
theorem wK_cover : (Finset.univ.biUnion wK) = Finset.univ :=
  Finset.eq_univ_iff_forall.mpr fun i => Finset.mem_biUnion.mpr ⟨(i 0 : Fin 2), Finset.mem_univ _, (mem_wSlot (i 0 : Fin 2) i).mpr rfl⟩
theorem w_blocks (c : Dev nD) (f : Buf (Elt F) ((c : Thread nD τ).loc cc0_scratch0)) :
    (((c : Thread nD τ).loc cc0_scratch0) ↦{fullShare} f : sProp 𝕄) = bigSep Finset.univ fun j => wbPts c j f :=
  Ring.pointsTo_blocks (ℓ := (c : Thread nD τ).loc cc0_scratch0) wK wK_disj wK_cover f

theorem r_split (c : Dev nD) : bufAt (F := F) c cc0_scratch1 ⊢ bigSep Finset.univ fun j => iprop(∃ f, rPts (F := F) c j f) :=
  BI.BIClass.exists_elim fun f => (Entails.of_eq (r_blocks c f)).trans
    (BI.bigSep_mono fun j _ => BI.BIClass.exists_intro (Φ := fun f => rPts (F := F) c j f) f)
theorem r_join (c : Dev nD) (f : Buf (Elt F) ((c : Thread nD τ).loc cc0_scratch1)) : (bigSep Finset.univ fun j => rPts (F := F) c j f) ⊢ bufAt (F := F) c cc0_scratch1 :=
  (Entails.of_eq (r_blocks c f).symm).trans (BI.BIClass.exists_intro (Φ := fun f => iprop(((c : Thread nD τ).loc cc0_scratch1) ↦{fullShare} f)) f)
theorem a_split (c : Dev nD) : bufAt (F := F) c cc0_scratch3 ⊢ bigSep Finset.univ fun j => iprop(∃ f, aPts (F := F) c j f) :=
  BI.BIClass.exists_elim fun f => (Entails.of_eq (a_blocks c f)).trans
    (BI.bigSep_mono fun j _ => BI.BIClass.exists_intro (Φ := fun f => aPts (F := F) c j f) f)
theorem a_join (c : Dev nD) (f : Buf (Elt F) ((c : Thread nD τ).loc cc0_scratch3)) : (bigSep Finset.univ fun j => aPts (F := F) c j f) ⊢ bufAt (F := F) c cc0_scratch3 :=
  (Entails.of_eq (a_blocks c f).symm).trans (BI.BIClass.exists_intro (Φ := fun f => iprop(((c : Thread nD τ).loc cc0_scratch3) ↦{fullShare} f)) f)
theorem wb_split (c : Dev nD) : bufAt (F := F) c cc0_scratch0 ⊢ iprop((∃ f, wbPts (F := F) c 0 f) ∗ (∃ f, wbPts (F := F) c 1 f)) :=
  BI.BIClass.exists_elim fun f => (Entails.of_eq (w_blocks c f)).trans
    ((BI.bigSep_mono fun j _ => BI.BIClass.exists_intro (Φ := fun f => wbPts (F := F) c j f) f).trans (Entails.of_eq (bigSep_univ_two _)))
theorem wb_join (c : Dev nD) (f g : Buf (Elt F) ((c : Thread nD τ).loc cc0_scratch0)) : iprop(wbPts c 0 f ∗ wbPts c 1 g) ⊢ bufAt (F := F) c cc0_scratch0 :=
  (BI.sep_mono (BI.BIClass.exists_intro (Φ := fun f => wbPts (F := F) c 0 f) f) (BI.BIClass.exists_intro (Φ := fun f => wbPts (F := F) c 1 f) g)).trans
    ((Entails.of_eq (bigSep_univ_two fun j => iprop(∃ f, wbPts (F := F) c j f)).symm).trans
      (Ring.pointsTo_blocks_join_exists (ℓ := (c : Thread nD τ).loc cc0_scratch0) wK wK_disj wK_cover f))

abbrev xK (c : Dev nD) (j : Fin 7) : Finset S4096x512.Idx := (xBlk c j).view.set
theorem xK_disj (c : Dev nD) (j j' : Fin 7) (h : j ≠ j') : Disjoint (xK c j) (xK c j') := by
  refine Finset.disjoint_left.mpr fun i hi hi' => h ?_
  have h1 := (mem_xBlk c j i).mp hi
  have h2 := (mem_xBlk c j' i).mp hi'
  have e : peer c j = peer c j' := Fin.ext (by omega)
  have := congrArg Fin.val e
  unfold peer at this
  dsimp only at this
  have hc : c.val < 8 := c.isLt
  exact Fin.ext (by have := j.isLt; have := j'.isLt; omega)

/-- The staged operand: the rows that are sent, and the rest. -/
theorem x_split (c : Dev nD) : (xM.view.loc (c : Thread nD τ) ↦{fullShare} xstg m ρ c : sProp 𝕄) ⊣⊢ iprop((bigSep Finset.univ fun j => xPts m ρ c j) ∗ xRest m ρ c) := by
  have e : (bigSep Finset.univ fun j => xPts m ρ c j : sProp 𝕄)
      = (xM.view.loc (c : Thread nD τ) ↦[Finset.univ.biUnion (xK c)]{fullShare} xstg m ρ c : sProp 𝕄) :=
    (pointsTo_biUnion (ℓ := xM.view.loc (c : Thread nD τ)) Finset.univ (xK c) (fun j _ j' _ h => xK_disj c j j' h)).symm
  rw [e]
  unfold xRest xOwn
  exact pointsTo_split_subset (Finset.subset_univ _)

/-- The shares of the vector of maxima make it whole. -/
theorem as_join (c : Dev nD) : (bigSep Finset.univ fun j => asPts m ρ c j) ⊢ bufAt (F := F) c cc0_scratch2 := by
  iintro H
  iexists (amaxV m ρ c)
  iapply (show (bigSep Finset.univ fun j => asPts m ρ c j) ⊢ ((c : Thread nD τ).loc cc0_scratch2 ↦{fullShare} amaxV m ρ c : sProp 𝕄) from by
    unfold asPts
    rw [View.set_whole]
    exact Entails.of_eq (Transfers.pointsTo_deal Finset.univ ⟨0, Finset.mem_univ _⟩ fullShare).symm)
  iexact H

end Cert.KernelIdealProof
-- ==== Proof.Parts.lean ====
/-
The kernel's body: its twenty-two parts in a row, from what a device holds at the start to what it holds at the end.
-/
module

public import proofs.«01_k».proof.Proof.Cells

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A program in two parts. -/
theorem run_bind (c : Dev nD) {α β : Type} (p : Prog (TpuEff nD τ sig (Elt F) Λ₀ .tc) α) (k : α → Prog (TpuEff nD τ sig (Elt F) Λ₀ .tc) β) (Q : β → sProp 𝕄) :
    run c p (fun a => run c (k a) Q) ⊢ run c (p >>= k) Q := Entails.of_eq (wp_bind _ _ _ _ _ _).symm

theorem done_zero (c : Dev nD) (q : Fin 7 → DmaSem sig) (P : Fin 7 → sProp 𝕄) : waitDone c q P 0 = iprop(emp) := Ring.bigSep_rangeSet_empty (le_refl 0)

/-- The credits of a family and its positions make its waits. -/
theorem todo_all (c : Dev nD) (q : Fin 7 → DmaSem sig) (N : ℕ) :
    iprop((bigSep Finset.univ fun j => cred (tallyAt ((c : Thread nD τ), .dma (q j)) () N)) ∗ bigSep Finset.univ fun j => atPos ER ((c : Thread nD τ), .dma (q j)) 0 (∅ : Finset (Fin 7)) 0)
      ⊢ (waitTodo c q N 0 : sProp 𝕄) := by
  unfold waitTodo
  rw [Ring.rangeSet_univ]
  exact Entails.of_eq (bigSep_sep' _ _ _).symm

theorem snd_todo (c : Dev nD) :
    iprop(sndCred c 7 ∗ bigSep Finset.univ fun j => atPos ER (sndC c j) 0 (∅ : Finset (Fin 7)) 0) ⊢ (waitTodo c sndS Nx 0 : sProp 𝕄) := by
  unfold sndCred
  rw [Ring.rangeSet_univ]
  exact todo_all c sndS Nx
theorem asnd_todo (c : Dev nD) :
    iprop(asndCred c 7 ∗ bigSep Finset.univ fun j => atPos ER (asndC c j) 0 (∅ : Finset (Fin 7)) 0) ⊢ (waitTodo c asndS Na 0 : sProp 𝕄) := by
  unfold asndCred
  rw [Ring.rangeSet_univ]
  exact todo_all c asndS Na

/-- What the parts begin with. -/
def before (c : Dev nD) : sProp 𝕄 :=
  iprop(sigTodo c 0 ∗ ow c (owed c 0 0 0) ∗ cred (tallyAt (barC c) () 7) ∗ atPos ER (barC c) 0 ∅ 0 ∗ sndToks c ∗ (bigSep Finset.univ fun j => xPts m ρ c j)
    ∗ wTodo c 0 ∗ wAll m c ∗ (∃ f, wbPts c 0 f) ∗ wAt c 0 0 ∗ (∃ f, wbPts c 1 f) ∗ wAt c 1 0 ∗ xRest m ρ c ∗ (∃ f, oPts c f)
    ∗ waitTodo c rcvS Nx 0 ∗ (∃ f, asAll c f) ∗ asndToks c ∗ waitTodo c arcvS Na 0
    ∗ (bigSep Finset.univ fun j => atPos ER (sndC c j) 0 (∅ : Finset (Fin 7)) 0) ∗ (bigSep Finset.univ fun j => atPos ER (asndC c j) 0 (∅ : Finset (Fin 7)) 0))

/-- What they end with. -/
def behind (c : Dev nD) : sProp 𝕄 :=
  iprop(atPos ER (barC c) 1 ∅ 0 ∗ ow c (owed c 7 7 7) ∗ wAll m c ∗ wbPts c 0 (wBuf m c 6) ∗ wAt c 0 4 ∗ wbPts c 1 (wBuf m c 7) ∗ wAt c 1 4 ∗ xRest m ρ c ∗ oPts c (outAt m ρ c)
    ∗ waitDone c rcvS (fun j => rPts c j (rBuf m ρ c)) 7 ∗ waitDone c arcvS (fun j => aPts c j (aBuf m ρ c)) 7 ∗ waitDone c sndS (xPts m ρ c) 7 ∗ waitDone c asndS (asPts m ρ c) 7)

/-- The body, part by part. -/
theorem body_parts (c : Dev nD) {Q : PUnit → sProp 𝕄} :
    iprop(facts m ρ ∗ before m ρ c)
      ⊢ iprop((behind m ρ c -∗ Q ⟨⟩)
        -∗ run c (cc0_body xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8) Q) := by
  simp only [cc0_body_eq_skeleton]
  unfold cc0_body_skel before
  iintro ⟨#HF, Hsig, HO, HcB, HatB, Htok, Hx, Ht, Hw, Hb0, Ha0, Hb1, Ha1, Hxr, Ho, Hr, Has, Hatok, Har, Hps, Hpa⟩ Hk
  iapply run_bind
  iapply (part1 m ρ c) $$ [Hsig HO]
  · isplitr; · iexact HF
    isplitl [Hsig]; · iexact Hsig
    iexact HO
  iintro %v2 %v24 ⟨Hsig, HO⟩
  dsimp only
  iapply run_bind
  iapply (part2 m ρ c v2 v24 _) $$ [Hsig HO HcB HatB Htok Hx]
  · isplitr; · iexact HF
    isplitl [Hsig]; · iexact Hsig
    isplitl [HO]; · iexact HO
    isplitl [HcB]; · iexact HcB
    isplitl [HatB]; · iexact HatB
    isplitl [Htok]; · iexact Htok
    iexact Hx
  iintro %v33 %v45 ⟨HatB, HpA, Hs, Hcs, HO⟩
  dsimp only
  iapply run_bind
  iapply (part3 m ρ c v2) $$ [Hs Hcs HO]
  · isplitr; · iexact HF
    isplitl [Hs]; · iexact Hs
    isplitl [Hcs]; · iexact Hcs
    iexact HO
  iintro %v57 %v69 %v81 ⟨Hs, Hcs, HO⟩
  dsimp only
  iapply run_bind
  iapply (part4 m ρ c v2 v81) $$ [Hs Hcs HO]
  · isplitr; · iexact HF
    isplitl [Hs]; · iexact Hs
    isplitl [Hcs]; · iexact Hcs
    iexact HO
  iintro %v93 %v105 ⟨Hs, Hcs, HO⟩
  dsimp only
  iapply run_bind
  iapply (part5 m ρ c v2) $$ [Hs Hcs HO Ht Hw Hb0 Ha0]
  · isplitr; · iexact HF
    isplitl [Hs]; · iexact Hs
    isplitl [Hcs]; · iexact Hcs
    isplitl [HO]; · iexact HO
    isplitl [Ht]; · iexact Ht
    isplitl [Hw]; · iexact Hw
    isplitl [Hb0]; · iexact Hb0
    iexact Ha0
  iintro ⟨Hcs, HO, Ht, Hw, Hb0, Ha0⟩
  iapply run_bind
  iapply (part6 m ρ c v2) $$ [HO Ht Hw Hb0 Ha0 Hb1 Ha1 Hxr Ho]
  · isplitr; · iexact HF
    isplitl [HO]; · iexact HO
    isplitl [Ht]; · iexact Ht
    isplitl [Hw]; · iexact Hw
    isplitl [Hb0]; · iexact Hb0
    isplitl [Ha0]; · iexact Ha0
    isplitl [Hb1]; · iexact Hb1
    isplitl [Ha1]; · iexact Ha1
    isplitl [Hxr]; · iexact Hxr
    iexact Ho
  iintro ⟨HO, Ht, Hw, Hc0, Ha0, Hb1, Ha1, Hxr, Ho⟩
  iapply run_bind
  iapply (part7 m ρ c v2 v33) $$ [HO Hw Hc0 Ha0 Hb1 Ho Hr]
  · isplitr; · iexact HF
    isplitl [HO]; · iexact HO
    isplitl [Hw]; · iexact Hw
    isplitl [Hc0]; · iexact Hc0
    isplitl [Ha0]; · iexact Ha0
    isplitl [Hb1]; · iexact Hb1
    isplitl [Ho]; · iexact Ho
    isplitl [Hr]; · iexact Hr
    rw [done_zero]; iempintro
  iintro %v195 ⟨HO, Hw, Hb0, Ha0, Hb1, Ho, Hr, Hd⟩
  iapply run_bind
  iapply (part8 m ρ c v2 v45 v195) $$ [HO Ht Hw Hb0 Hb1 Ha1 Ho Hr Hd]
  · isplitr; · iexact HF
    isplitl [HO]; · iexact HO
    isplitl [Ht]; · iexact Ht
    isplitl [Hw]; · iexact Hw
    isplitl [Hb0]; · iexact Hb0
    isplitl [Hb1]; · iexact Hb1
    isplitl [Ha1]; · iexact Ha1
    isplitl [Ho]; · iexact Ho
    isplitl [Hr]; · iexact Hr
    iexact Hd
  iintro ⟨HO, Ht, Hw, Hc1, Ha1, Hb0, Ho, Hr, Hd⟩
  iapply run_bind
  iapply (part9 m ρ c v2 v57) $$ [HO Ht Hw Hc1 Ha1 Hb0 Ha0 Hr Hd]
  · isplitr; · iexact HF
    isplitl [HO]; · iexact HO
    isplitl [Ht]; · iexact Ht
    isplitl [Hw]; · iexact Hw
    isplitl [Hc1]; · iexact Hc1
    isplitl [Ha1]; · iexact Ha1
    isplitl [Hb0]; · iexact Hb0
    isplitl [Ha0]; · iexact Ha0
    isplitl [Hr]; · iexact Hr
    iexact Hd
  iintro ⟨HO, Ht, Hw, Hc0, Ha0, Hb1, Ha1, Hr, Hd⟩
  iapply run_bind
  iapply (part10 m ρ c v2 v69) $$ [HO Ht Hw Hc0 Ha0 Hb1 Ha1 Ho]
  · isplitr; · iexact HF
    isplitl [HO]; · iexact HO
    isplitl [Ht]; · iexact Ht
    isplitl [Hw]; · iexact Hw
    isplitl [Hc0]; · iexact Hc0
    isplitl [Ha0]; · iexact Ha0
    isplitl [Hb1]; · iexact Hb1
    isplitl [Ha1]; · iexact Ha1
    iexact Ho
  iintro ⟨HO, Ht, Hw, Hc1, Ha1, Hb0, Ha0, Ho⟩
  iapply run_bind
  iapply (part11 m ρ c v2) $$ [HO Ht Hw Hc1 Ha1 Hb0 Ha0 Ho Hr Hd]
  · isplitr; · iexact HF
    isplitl [HO]; · iexact HO
    isplitl [Ht]; · iexact Ht
    isplitl [Hw]; · iexact Hw
    isplitl [Hc1]; · iexact Hc1
    isplitl [Ha1]; · iexact Ha1
    isplitl [Hb0]; · iexact Hb0
    isplitl [Ha0]; · iexact Ha0
    isplitl [Ho]; · iexact Ho
    isplitl [Hr]; · iexact Hr
    iexact Hd
  iintro ⟨HO, Ht, Hw, Hc0, Ha0, Hb1, Ha1, Ho, Hr, Hd⟩
  iapply run_bind
  iapply (part12 m ρ c v2 v81) $$ [HO Hw Hc0 Ha0 Hb1 Ho Hr Hd]
  · isplitr; · iexact HF
    isplitl [HO]; · iexact HO
    isplitl [Hw]; · iexact Hw
    isplitl [Hc0]; · iexact Hc0
    isplitl [Ha0]; · iexact Ha0
    isplitl [Hb1]; · iexact Hb1
    isplitl [Ho]; · iexact Ho
    isplitl [Hr]; · iexact Hr
    iexact Hd
  iintro %v331 ⟨HO, Hw, Hb0, Ha0, Hb1, Ho, Hr, Hd⟩
  iapply run_bind
  iapply (part13 m ρ c v2 v93 v331) $$ [HO Ht Hw Hb0 Hb1 Ha1 Ho Hr Hd]
  · isplitr; · iexact HF
    isplitl [HO]; · iexact HO
    isplitl [Ht]; · iexact Ht
    isplitl [Hw]; · iexact Hw
    isplitl [Hb0]; · iexact Hb0
    isplitl [Hb1]; · iexact Hb1
    isplitl [Ha1]; · iexact Ha1
    isplitl [Ho]; · iexact Ho
    isplitl [Hr]; · iexact Hr
    iexact Hd
  iintro ⟨HO, Ht, Hw, Hc1, Ha1, Hb0, Ho, Hr, Hd⟩
  iapply run_bind
  iapply (part14 m ρ c v105) $$ [HO Hw Hc1 Ha1 Ho Hr Hd]
  · isplitr; · iexact HF
    isplitl [HO]; · iexact HO
    isplitl [Hw]; · iexact Hw
    isplitl [Hc1]; · iexact Hc1
    isplitl [Ha1]; · iexact Ha1
    isplitl [Ho]; · iexact Ho
    isplitl [Hr]; · iexact Hr
    iexact Hd
  iintro ⟨HO, Hw, Hb1, Ha1, Ho, Hr, Hd⟩
  iapply run_bind
  iapply (part15 m ρ c v2) $$ [HO Ho Has Hatok HpA]
  · isplitr; · iexact HF
    isplitl [HO]; · iexact HO
    isplitl [Ho]; · iexact Ho
    isplitl [Has]; · iexact Has
    isplitl [Hatok]; · iexact Hatok
    iexact HpA
  iintro %v396 %v406 %v416 ⟨HO, Hat, Hca, Ho⟩
  dsimp only
  iapply run_bind
  iapply (part16 m ρ c v2 v416) $$ [HO Hat Hca]
  · isplitr; · iexact HF
    isplitl [HO]; · iexact HO
    isplitl [Hat]; · iexact Hat
    iexact Hca
  iintro %v426 %v436 %v446 ⟨HO, Hat, Hca⟩
  dsimp only
  iapply run_bind
  iapply (part17 m ρ c v2 _ v396 v406 v446) $$ [HO Hat Hca Har]
  · isplitr; · iexact HF
    isplitl [HO]; · iexact HO
    isplitl [Hat]; · iexact Hat
    isplitl [Hca]; · iexact Hca
    isplitl [Har]; · iexact Har
    rw [done_zero]; iempintro
  iintro %v456 %v474 ⟨HO, Hca, Har, Hda⟩
  dsimp only
  iapply run_bind
  iapply (part18 m ρ c v416 v426 v436 _ v474) $$ [HO Har Hda]
  · isplitr; · iexact HF
    isplitl [HO]; · iexact HO
    isplitl [Har]; · iexact Har
    iexact Hda
  iintro %v501 ⟨HO, Har, Hda⟩
  dsimp only
  iapply run_bind
  iapply (part19 m ρ c v446 v456 _ v501) $$ [HO Har Hda]
  · isplitr; · iexact HF
    isplitl [HO]; · iexact HO
    isplitl [Har]; · iexact Har
    iexact Hda
  iintro ⟨HO, Har, Hda⟩
  ihave Hss := (snd_todo c) $$ [Hcs Hps]
  · isplitl [Hcs] <;> iassumption
  ihave Hsa := (asnd_todo c) $$ [Hca Hpa]
  · isplitl [Hca] <;> iassumption
  iapply run_bind
  iapply (part20 m ρ c) $$ [HO Hss]
  · isplitr; · iexact HF
    isplitl [HO]; · iexact HO
    isplitl [Hss]; · iexact Hss
    rw [done_zero]; iempintro
  iintro ⟨HO, Hss, Hds⟩
  iapply run_bind
  iapply (part21 m ρ c) $$ [HO Hss Hds Hsa]
  · isplitr; · iexact HF
    isplitl [HO]; · iexact HO
    isplitl [Hss]; · iexact Hss
    isplitl [Hds]; · iexact Hds
    isplitl [Hsa]; · iexact Hsa
    rw [done_zero]; iempintro
  iintro ⟨HO, Hss, Hds, Hsa, Hdsa⟩
  iapply run_bind
  iapply (part22 m ρ c _) $$ [HO Hsa Hdsa Ho]
  · isplitr; · iexact HF
    isplitl [HO]; · iexact HO
    isplitl [Hsa]; · iexact Hsa
    isplitl [Hdsa]; · iexact Hdsa
    iexact Ho
  iintro ⟨HO, Hsa, Hdsa, Ho⟩
  simp only [Prog.lift, Prog.bind_op, Prog.bind_ret, Prog.pure_eq_ret]
  iapply (step_load_o c) $$ Ho
  iintro Ho
  iapply (step_store_o c) $$ Ho
  iintro Ho
  iapply run_ret
  iapply Hk
  unfold behind
  isplitl [HatB]; · iexact HatB
  isplitl [HO]; · iexact HO
  isplitl [Hw]; · iexact Hw
  isplitl [Hb0]; · iexact Hb0
  isplitl [Ha0]; · iexact Ha0
  isplitl [Hb1]; · iexact Hb1
  isplitl [Ha1]; · iexact Ha1
  isplitl [Hxr]; · iexact Hxr
  isplitl [Ho]; · iexact Ho
  isplitl [Hd]; · iexact Hd
  isplitl [Hda]; · iexact Hda
  isplitl [Hds]; · iexact Hds
  iexact Hdsa

end Cert.KernelIdealProof
-- ==== Proof.Body.lean ====
/-
What a device holds when the kernel starts and when it ends, and the kernel's body between the two.
-/
module

public import proofs.«01_k».proof.Proof.Parts

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The duties of `c`'s signals: signal `j` pays duty `j.rev` of peer `j`'s barrier. -/
def sigToks (c : Dev nD) : sProp 𝕄 := bigSep Finset.univ fun j : Fin 7 => dutyTok ER (barC (peer c j)) 0 j.rev

/-- The positions of `c`'s semaphores. -/
def poss (c : Dev nD) : sProp 𝕄 := bigSep Finset.univ fun k : Fin 31 => atPos ER (kcell (c, k)) 0 (∅ : Finset (Fin 7)) 0

/-- The duties `c` pays. -/
def toks (c : Dev nD) : sProp 𝕄 := iprop(sigToks c ∗ wTodo c 0 ∗ sndToks c ∗ asndToks c)

/-- The credits `c` starts with: what the others owe it. -/
def creds (c : Dev nD) : sProp 𝕄 :=
  iprop(cred (tallyAt (barC c) () 7) ∗ (bigSep Finset.univ fun j => cred (tallyAt (rcvC c j) () Nx)) ∗ bigSep Finset.univ fun j => cred (tallyAt (arcvC c j) () Na))

def start (c : Dev nD) : sProp 𝕄 := iprop(facts m ρ ∗ poss c ∗ toks c ∗ creds c ∗ wAll m c)

/-- The kernel's scratch buffers. -/
def scr (c : Dev nD) : sProp 𝕄 := iprop(bufAt (F := F) c cc0_scratch0 ∗ bufAt (F := F) c cc0_scratch1 ∗ bufAt (F := F) c cc0_scratch2 ∗ bufAt (F := F) c cc0_scratch3)

/-- All the kernel's semaphores at zero. -/
def zeros (c : Dev nD) : sProp 𝕄 := bigSep Finset.univ fun k : Fin 31 => semVal (kcell (c, k)) 0

def Φ₀ (c : Dev nD) : sProp 𝕄 := iprop(start m ρ c ∗ scr c)
def Φ₁ (c : Dev nD) : sProp 𝕄 := iprop(wAll m c ∗ zeros c ∗ scr c)

/-! ## From the start to the first part -/

/-- The duties of the signals and the landing slots make the signals. -/
theorem sig_all (c : Dev nD) :
    iprop(sigToks c ∗ (bigSep Finset.univ fun j => iprop(∃ f, rPts (F := F) c j f)) ∗ bigSep Finset.univ fun j => iprop(∃ f, aPts (F := F) c j f)) ⊢ sigTodo (F := F) c 0 := by
  unfold sigToks sigTodo
  rw [Ring.rangeSet_univ, bigSep_univ_equiv Fin.revPerm (fun j => iprop(∃ f, rPts (F := F) c j f)), bigSep_univ_equiv Fin.revPerm (fun j => iprop(∃ f, aPts (F := F) c j f)),
    ← bigSep_sep', ← bigSep_sep']
  exact Entails.of_eq rfl

/-- A weight semaphore's position, and that its first round is reached. -/
theorem w_at (c : Dev nD) (s : Fin 2) : iprop(facts m ρ ∗ atPos ER (wC c s) 0 (∅ : Finset (Fin 7)) 0) ⊢ wAt (F := F) c s 0 := by
  unfold wAt
  iintro ⟨#HF, Ha⟩
  ihave HB := facts_dma m ρ c (wS s) (wS_le s) $$ HF
  icases HB with ⟨%κ, -, HR⟩
  isplitl [Ha] <;> iassumption

theorem to_before (c : Dev nD) (f : Vec F S512x2048 .f32) :
    iprop(Φ₀ m ρ c ∗ ow c (owed c 0 0 0) ∗ (xM.view.loc (c : Thread nD τ) ↦{fullShare} xstg m ρ c) ∗ oPts c f) ⊢ iprop(facts m ρ ∗ before m ρ c) := by
  unfold Φ₀ start scr toks creds poss
  rw [cells_split c (fun g => atPos ER g 0 (∅ : Finset (Fin 7)) 0)]
  iintro ⟨⟨⟨#HF, ⟨HpB, ⟨Hp0, Hp1⟩, Hps, Hpr, Hpa, Hpc⟩, ⟨Ht1, Ht2, Ht3, Ht4⟩, ⟨Hc1, Hc2, Hc3⟩, Hw⟩, ⟨Hb0, Hb1, Hb2, Hb3⟩⟩, HO, Hx, Ho⟩
  isplitr; · iexact HF
  unfold before
  ihave Hr := (r_split c) $$ Hb1
  ihave Ha := (a_split c) $$ Hb3
  ihave Hwb := (wb_split c) $$ Hb0
  icases Hwb with ⟨Hwb0, Hwb1⟩
  ihave Hx := (x_split m ρ c).1 $$ Hx
  icases Hx with ⟨Hx, Hxr⟩
  isplitl [Ht1 Hr Ha]
  · iapply (sig_all c)
    isplitl [Ht1]; · iexact Ht1
    isplitl [Hr] <;> iassumption
  isplitl [HO]; · iexact HO
  isplitl [Hc1]; · iexact Hc1
  isplitl [HpB]; · iexact HpB
  isplitl [Ht3]; · iexact Ht3
  isplitl [Hx]; · iexact Hx
  isplitl [Ht2]; · iexact Ht2
  isplitl [Hw]; · iexact Hw
  isplitl [Hwb0]; · iexact Hwb0
  isplitl [Hp0]
  · iapply (w_at m ρ c 0)
    isplitr; · iexact HF
    iexact Hp0
  isplitl [Hwb1]; · iexact Hwb1
  isplitl [Hp1]
  · iapply (w_at m ρ c 1)
    isplitr; · iexact HF
    iexact Hp1
  isplitl [Hxr]; · iexact Hxr
  isplitl [Ho]; · iexists f; iexact Ho
  isplitl [Hc2 Hpr]
  · iapply (todo_all c rcvS Nx)
    isplitl [Hc2] <;> iassumption
  isplitl [Hb2]; · iexact Hb2
  isplitl [Ht4]; · iexact Ht4
  isplitl [Hc3 Hpc]
  · iapply (todo_all c arcvS Na)
    isplitl [Hc3] <;> iassumption
  isplitl [Hps] <;> iassumption

/-! ## From the last part to the end -/

theorem rounds_w (s : Fin 2) : kRounds (dec (wS s).val) ≤ 4 := by rw [dec_w]; exact le_refl _
theorem rounds_snd (j : Fin 7) : kRounds (dec (sndS j).val) ≤ 1 := by rw [dec_snd]; exact le_refl _
theorem rounds_rcv (j : Fin 7) : kRounds (dec (rcvS j).val) ≤ 1 := by rw [dec_rcv]; exact le_refl _
theorem rounds_asnd (j : Fin 7) : kRounds (dec (asndS j).val) ≤ 1 := by rw [dec_asnd]; exact le_refl _
theorem rounds_arcv (j : Fin 7) : kRounds (dec (arcvS j).val) ≤ 1 := by rw [dec_arcv]; exact le_refl _

theorem from_behind (c : Dev nD) :
    iprop(facts m ρ ∗ behind m ρ c) ⊢ (|={Set.univ}=> iprop(Φ₁ m c ∗ ow c 0 ∗ (xM.view.loc (c : Thread nD τ) ↦{fullShare} xstg m ρ c) ∗ oPts c (outAt m ρ c)) : sProp 𝕄) := by
  unfold behind Φ₁ zeros scr wAt
  rw [owed_end, cells_split c (fun g => semVal g 0)]
  iintro ⟨#HF, HatB, HO, Hw, Hb0, ⟨Ha0, -⟩, Hb1, ⟨Ha1, -⟩, Hxr, Ho, Hd, Hda, Hds, Hdsa⟩
  imod (close_bar m ρ c) $$ [HatB] with HzB
  · isplitr; · iexact HF
    iexact HatB
  imod (close_dma m ρ c (wS 0) (wS_le 0) 4 (rounds_w 0)) $$ [Ha0] with Hz0
  · isplitr; · iexact HF
    iexact Ha0
  imod (close_dma m ρ c (wS 1) (wS_le 1) 4 (rounds_w 1)) $$ [Ha1] with Hz1
  · isplitr; · iexact HF
    iexact Ha1
  imod (done_all m ρ c rcvS _ rcvS_le rounds_rcv) $$ [Hd] with ⟨Hzr, Hr⟩
  · isplitr; · iexact HF
    iexact Hd
  imod (done_all m ρ c arcvS _ arcvS_le rounds_arcv) $$ [Hda] with ⟨Hzc, Ha⟩
  · isplitr; · iexact HF
    iexact Hda
  imod (done_all m ρ c sndS _ sndS_le rounds_snd) $$ [Hds] with ⟨Hzs, Hx⟩
  · isplitr; · iexact HF
    iexact Hds
  imod (done_all m ρ c asndS _ asndS_le rounds_asnd) $$ [Hdsa] with ⟨Hza, Has⟩
  · isplitr; · iexact HF
    iexact Hdsa
  imodintro
  isplitr [HO Hx Hxr Ho]
  · isplitl [Hw]; · iexact Hw
    isplitl [HzB Hz0 Hz1 Hzr Hzc Hzs Hza]
    · isplitl [HzB]; · iexact HzB
      isplitl [Hz0 Hz1]
      · isplitl [Hz0] <;> iassumption
      isplitl [Hzs]; · iexact Hzs
      isplitl [Hzr]; · iexact Hzr
      isplitl [Hza] <;> iassumption
    isplitl [Hb0 Hb1]
    · iapply (wb_join c)
      isplitl [Hb0] <;> iassumption
    isplitl [Hr]
    · iapply (r_join c (rBuf m ρ c)); iexact Hr
    isplitl [Has]
    · iapply (as_join m ρ c); iexact Has
    iapply (a_join c (aBuf m ρ c)); iexact Ha
  isplitl [HO]; · iexact HO
  isplitl [Hx Hxr]
  · iapply (x_split m ρ c).2
    isplitl [Hx] <;> iassumption
  iexact Ho

/-- The whole body. -/
theorem body_whole (c : Dev nD) (f : Vec F S512x2048 .f32) {Q : PUnit → sProp 𝕄} :
    iprop(Φ₀ m ρ c ∗ ow c (owed c 0 0 0) ∗ (xM.view.loc (c : Thread nD τ) ↦{fullShare} xstg m ρ c) ∗ oPts c f)
      ⊢ iprop((iprop(Φ₁ m c ∗ ow c 0 ∗ (xM.view.loc (c : Thread nD τ) ↦{fullShare} xstg m ρ c) ∗ oPts c (outAt m ρ c)) -∗ |={Set.univ}=> Q ⟨⟩)
        -∗ run c (cc0_body xM (Memref.isWhole_whole _) wM (Memref.isWhole_whole _) oM (Memref.isWhole_whole _) wbM (Memref.isWhole_whole _)
          rM (Memref.isWhole_whole _) asM (Memref.isWhole_whole _) arM (Memref.isWhole_whole _) cc0_scratch4 cc0_scratch5 cc0_scratch6 cc0_scratch7 cc0_scratch8) Q) := by
  refine (to_before m ρ c f).trans ?_
  iintro ⟨#HF, HB⟩ Hk
  iapply (wp_fupd (Fr := frame))
  iapply (body_parts m ρ c) $$ [HB]
  · isplitr; · iexact HF
    iexact HB
  iintro HE
  imod (from_behind m ρ c) $$ [HE] with HE
  · isplitr; · iexact HF
    iexact HE
  iapply Hk
  iexact HE

/-! ## The pipeline's data, and its obligation for the body -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => owed c 0 0 0
    | ⟨_ + 1, _⟩ => 0

/-- A buffer held whole at known contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the pipeline gives the body, and what it takes from it. -/
def given (c : Dev nD) : sProp 𝕄 :=
  iprop(Φ₀ m ρ c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
def taken (c : Dev nD) : sProp 𝕄 :=
  iprop(Φ₁ m c ∗ (dats m ρ 0 c).owesAt () t0_0.succ ∗ stg c cc0_stg0_0 (xstg m ρ c) ∗ stg c cc0_stg1_0 (outAt m ρ c))

theorem before_x (c : Dev nD) (d) : (dats m ρ 0 c).before (0 : Fin 2) t0_0 d = xstg m ρ c := by
  unfold Dat.before
  rw [if_pos (show (cfg0.win (0 : Fin 2)).fetch t0_0 = true from rfl)]
  rfl

theorem given_taken (c : Dev nD) :
    given m ρ c ⊢ run c (cc0_body xM (Memref.isWhole_whole _) wM (Memref.isWhole_whole _) oM (Memref.isWhole_whole _) wbM (Memref.isWhole_whole _)
      rM (Memref.isWhole_whole _) asM (Memref.isWhole_whole _) arM (Memref.isWhole_whole _) cc0_scratch4 cc0_scratch5 cc0_scratch6 cc0_scratch7 cc0_scratch8) (fun _ => taken m ρ c) := by
  unfold given
  iintro ⟨HΦ, ⟨%W, -, HO⟩, ⟨%d, %fx, %hx, Hx⟩, ⟨%d', %fo, -, Ho⟩⟩
  rw [before_x] at hx
  subst hx
  iapply (body_whole m ρ c fo) $$ [HΦ HO Hx Ho]
  · isplitl [HΦ]; · iexact HΦ
    isplitl [HO]; · unfold ow; iexists W; iexact HO
    isplitl [Hx]; · iexact Hx
    unfold oPts; iexact Ho
  unfold ow oPts
  iintro ⟨HΦ, ⟨%W', HO⟩, Hx, Ho⟩
  imodintro
  unfold taken
  isplitl [HΦ]; · iexact HΦ
  isplitl [HO]
  · iexists W'
    isplitr; · ipureintro; exact fun _ _ => Or.inl trivial
    iexact HO
  isplitl [Hx]
  · iexists _; isplitr; · ipureintro; rfl
    iexact Hx
  iexists _; isplitr; · ipureintro; rfl
  iexact Ho

set_option maxRecDepth 65536 in
/-- The body does what the pipeline asks of it. -/
theorem body_obligation (c : Dev nD) : BodyObligation (dats (F := F) m ρ 0 c) (defs₀ (F := F)) 𝒱₀ () Set.univ := fun t => by
  rw [fin_N0 t]
  rw [bigSep_W0, bigSep_W0]
  simp only [owns_stg]
  exact given_taken m ρ c

end Cert.KernelIdealProof
-- ==== Proof.Alloc.lean ====
/-
Setting the kernel up on the eight devices: the protocol's cells are allocated, each device gets the duties it pays and the credits it is owed.
-/
module

public import proofs.«01_k».proof.Proof.Body

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem csem_injective : Function.Injective csem := by
  intro k k' h
  unfold csem at h
  split at h <;> split at h
  · exact Fin.ext (by omega)
  · cases h
  · cases h
  · have := congrArg Fin.val (SemLoc.dma.inj h)
    exact Fin.ext (by dsimp only at this; omega)

theorem kcell_injective : Function.Injective (kcell : Dev nD × Fin 31 → GSem nD τ sig) := by
  rintro ⟨c, k⟩ ⟨c', k'⟩ h
  have h1 : c = c' := congrArg (fun g : GSem nD τ sig => g.1.1) h
  have h2 : k = k' := csem_injective (congrArg Prod.snd h)
  subst h1 h2; rfl

/-- The protocol's cells. -/
def protoCells : Finset (GSem nD τ sig) := Finset.univ.map ⟨kcell, kcell_injective⟩

/-! ## The duties -/

/-- A device's semaphores' duties: the barrier's seven, the weights' eight, and seven of each other family. -/
abbrev Duties : Type := Fin 7 ⊕ Fin 8 ⊕ Fin 7 ⊕ Fin 7 ⊕ Fin 7 ⊕ Fin 7

/-- Which semaphore, which round, which duty. -/
def dutyKey : Duties → Fin 31 × ℕ × Fin 7
  | .inl d => (0, 0, d)
  | .inr (.inl i) => (kidx (wS ⟨i.val % 2, Nat.mod_lt _ (by decide)⟩) (wS_le _), i.val / 2, 0)
  | .inr (.inr (.inl j)) => (kidx (sndS j) (sndS_le j), 0, 0)
  | .inr (.inr (.inr (.inl j))) => (kidx (rcvS j) (rcvS_le j), 0, 0)
  | .inr (.inr (.inr (.inr (.inl j)))) => (kidx (asndS j) (asndS_le j), 0, 0)
  | .inr (.inr (.inr (.inr (.inr j)))) => (kidx (arcvS j) (arcvS_le j), 0, 0)

set_option maxRecDepth 4000 in
theorem dutyKey_injective : Function.Injective dutyKey := by decide

def dutyOf (ct : Dev nD × Duties) : GSem nD τ sig × ℕ × Fin 7 := (kcell (ct.1, (dutyKey ct.2).1), (dutyKey ct.2).2)

theorem dutyOf_injective : Function.Injective dutyOf := by
  rintro ⟨c, t⟩ ⟨c', t'⟩ h
  have h1 := kcell_injective (congrArg Prod.fst h)
  have h2 := congrArg Prod.snd h
  have hc : c = c' := congrArg Prod.fst h1
  have ht : t = t' := dutyKey_injective (Prod.ext (congrArg Prod.snd h1) h2)
  subst hc ht; rfl

def protoToks : Finset (GSem nD τ sig × ℕ × Fin 7) := Finset.univ.map ⟨dutyOf, dutyOf_injective⟩

/-- The duties of device `c`'s own semaphores. -/
def minted (c : Dev nD) : sProp 𝕄 :=
  bigSep Finset.univ fun t : Duties => dutyTok ER (kcell (c, (dutyKey t).1)) (dutyKey t).2.1 (dutyKey t).2.2

theorem minted_eq (c : Dev nD) :
    minted (F := F) c = iprop((bigSep Finset.univ fun d : Fin 7 => dutyTok ER (barC c) 0 d) ∗ wTodo c 0 ∗ (bigSep Finset.univ fun j => dutyTok ER (sndC c j) 0 (0 : Fin 7))
      ∗ (bigSep Finset.univ fun j => dutyTok ER (rcvC c j) 0 (0 : Fin 7)) ∗ (bigSep Finset.univ fun j => dutyTok ER (asndC c j) 0 (0 : Fin 7))
      ∗ bigSep Finset.univ fun j => dutyTok ER (arcvC c j) 0 (0 : Fin 7)) := by
  unfold minted wTodo
  rw [Ring.rangeSet_univ, BI.bigSep_univ_sum, BI.bigSep_univ_sum, BI.bigSep_univ_sum, BI.bigSep_univ_sum, BI.bigSep_univ_sum]
  refine congrArg₂ _ rfl (congrArg₂ _ ?_ (congrArg₂ _ ?_ (congrArg₂ _ ?_ (congrArg₂ _ ?_ ?_))))
  · exact bigSep_congr fun i _ => congrArg (fun g => dutyTok ER g (i.val / 2) (0 : Fin 7)) (kcell_kidx c (wS ⟨i.val % 2, Nat.mod_lt _ (by decide)⟩) (wS_le _))
  · exact bigSep_congr fun j _ => congrArg (fun g => dutyTok ER g 0 (0 : Fin 7)) (kcell_kidx c (sndS j) (sndS_le j))
  · exact bigSep_congr fun j _ => congrArg (fun g => dutyTok ER g 0 (0 : Fin 7)) (kcell_kidx c (rcvS j) (rcvS_le j))
  · exact bigSep_congr fun j _ => congrArg (fun g => dutyTok ER g 0 (0 : Fin 7)) (kcell_kidx c (asndS j) (asndS_le j))
  · exact bigSep_congr fun j _ => congrArg (fun g => dutyTok ER g 0 (0 : Fin 7)) (kcell_kidx c (arcvS j) (arcvS_le j))

/-- Families indexed by device and by `j`, the device moved to its peer `j`. -/
theorem around (Φ : Dev nD → Fin 7 → sProp 𝕄) :
    (bigSep Finset.univ fun c : Dev nD => bigSep Finset.univ fun j => Φ c j) = bigSep Finset.univ fun c : Dev nD => bigSep Finset.univ fun j => Φ (peer c j) j := by
  rw [BI.bigSep_univ_comm, BI.bigSep_univ_comm (fun (c : Dev nD) (j : Fin 7) => Φ (peer c j) j)]
  exact bigSep_congr fun j _ => bigSep_univ_equiv (ring j) (fun c => Φ c j)

/-- The duties dealt to the devices that pay them. -/
theorem deal : (bigSep Finset.univ fun c : Dev nD => minted (F := F) c) ⊢ bigSep Finset.univ fun c : Dev nD => toks (F := F) c := by
  have hb : (bigSep Finset.univ fun c : Dev nD => bigSep Finset.univ fun d : Fin 7 => (dutyTok ER (barC c) 0 d : sProp 𝕄)) = bigSep Finset.univ fun c : Dev nD => sigToks (F := F) c := by
    unfold sigToks
    rw [← around (fun c j => (dutyTok ER (barC c) 0 j.rev : sProp 𝕄))]
    exact bigSep_congr fun c _ => bigSep_univ_equiv Fin.revPerm (fun d => (dutyTok ER (barC c) 0 d : sProp 𝕄))
  rw [bigSep_congr fun c _ => minted_eq (F := F) c]
  unfold toks sndToks asndToks
  simp only [bigSep_sep']
  rw [hb, around (fun c j => (dutyTok ER (rcvC c j) 0 (0 : Fin 7) : sProp 𝕄)), around (fun c j => (dutyTok ER (arcvC c j) 0 (0 : Fin 7) : sProp 𝕄))]
  iintro ⟨H1, H2, H3, H4, H5, H6⟩
  isplitl [H1]; · iexact H1
  isplitl [H2]; · iexact H2
  isplitl [H3 H4]
  · isplitl [H3] <;> iassumption
  isplitl [H5] <;> iassumption

/-! ## Allocation -/

/-- The semaphores the kernel declares, as the pipeline lists them. -/
abbrev osem : Fin 30 → SemLoc sig := fun k => csem k.succ

theorem ownSemFacts : Pipeline.OwnSemFacts cfg0.spec osem := by decide

/-- The kernel's own semaphores and the barrier, at zero. -/
theorem sems_eq (c : Dev nD) :
    iprop(Pipeline.ownSems0 (Ix := Unit) (Name := ℕ) (U := UU) (Lvl := ℕ) (Val := Elt F) (τ := τ) osem c ∗ unscopedSems0 c) ⊣⊢ (zeros c : sProp 𝕄) := by
  have hu : (unscopedSems0 c : sProp 𝕄) = semVal (barC c) 0 := by
    unfold unscopedSems0
    rw [bigSep_eq_bigSepL_of_eq [SemLoc.reg barS] (by decide) (by decide)]
    rfl
  have hz : (zeros c : sProp 𝕄) = iprop(semVal (barC c) 0 ∗ bigSep Finset.univ fun k : Fin 30 => semVal (kcell (c, k.succ)) 0) := by
    unfold zeros
    rw [Fin.univ_succ, Finset.cons_eq_insert, BI.bigSep_insert (by simp), BI.bigSep_map]
    rfl
  rw [hu, hz]
  unfold Pipeline.ownSems0
  exact ⟨BI.sep_comm, BI.sep_comm⟩

/-- What the launch deals device `c`. -/
def G (c : Dev nD) : sProp 𝕄 :=
  iprop((bigSep Finset.univ fun k : Fin 31 => roundState ER (Sched m ρ) (kcell (c, k)) 0) ∗ (bigSep Finset.univ fun k : Fin 31 => reached ER (kcell (c, k)) 0)
    ∗ poss c ∗ minted c)

/-- Every cell's invariant, and that every cell's round 0 is reached. -/
def cellFacts : sProp 𝕄 :=
  bigSep Finset.univ fun ck : Dev nD × Fin 31 => iprop(∃ κ, cellInv ER (Sched m ρ) κ (kcell ck) ∗ reached ER (kcell ck) 0)

instance cellFacts_persistent : BI.Persistent (cellFacts (F := F) m ρ) := by unfold cellFacts; infer_instance

/-- What device `c` has once the cells are allocated and the duties dealt. -/
def G' (c : Dev nD) : sProp 𝕄 := iprop(cellFacts m ρ ∗ poss c ∗ toks c)

theorem fund_cells : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 31 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => minted c := by
    unfold protoToks minted; rw [bigSep_map, bigSep_univ_prod]; rfl
  iintro HX
  imod (Rounds.fund ER (Sched m ρ) protoCells protoToks) $$ HX with ⟨Hst, Hr, Hat, Htok⟩
  imodintro
  ihave Hst := (Entails.of_eq (hX fun g => roundState ER (Sched m ρ) g 0)) $$ Hst
  ihave Hat := (Entails.of_eq (hX fun g => atPos ER g 0 (∅ : Finset (Fin 7)) 0)) $$ Hat
  ihave Hr := (Entails.of_eq (hX fun g => reached ER g 0)) $$ Hr
  ihave Htok := (Entails.of_eq hT) $$ Htok
  unfold G poss
  simp only [bigSep_sep']
  isplitl [Hst]; · iexact Hst
  isplitl [Hr]; · iexact Hr
  isplitl [Hat] <;> iassumption

/-- A cell allocated. -/
theorem cell_alloc (g : GSem nD τ sig) :
    iprop(semVal g 0 ∗ roundState ER (Sched m ρ) g 0 ∗ reached ER g 0) ⊢ (|={Set.univ}=> iprop(∃ κ : ℕ, cellInv ER (Sched m ρ) κ g ∗ reached ER g 0) : sProp 𝕄) := by
  iintro ⟨Hv, Hst, Hr⟩
  imod ((Rounds.body_intro ER (Sched m ρ) g).trans inv_alloc) $$ [Hv Hst] with ⟨%κ, HI⟩
  · isplitl [Hv] <;> iassumption
  imodintro
  iexists κ
  isplitl [HI] <;> iassumption

/-- A device's cells allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 31 => iprop(∃ κ, cellInv ER (Sched m ρ) κ (kcell (c, k)) ∗ reached ER (kcell (c, k)) 0)) ∗ poss c ∗ minted c) := by
  have halloc : iprop(zeros c ∗ (bigSep Finset.univ fun k : Fin 31 => roundState ER (Sched m ρ) (kcell (c, k)) 0) ∗ bigSep Finset.univ fun k : Fin 31 => reached ER (kcell (c, k)) 0)
      ⊢ (|={Set.univ}=> bigSep Finset.univ fun k : Fin 31 => iprop(∃ κ : ℕ, cellInv ER (Sched m ρ) κ (kcell (c, k)) ∗ reached ER (kcell (c, k)) 0) : sProp 𝕄) := by
    unfold zeros
    rw [← bigSep_sep', ← bigSep_sep']
    exact (bigSep_mono fun k _ => cell_alloc m ρ (kcell (c, k))).trans (bigSep_fupd _ _)
  unfold G
  iintro ⟨Hos, Hus, Hst, Hr, Hp, Ht⟩
  ihave Hz := ((sems_eq (F := F) c).1) $$ [Hos Hus]
  · isplitl [Hos] <;> iassumption
  imod halloc $$ [Hz Hst Hr] with HI
  · isplitl [Hz]; · iexact Hz
    isplitl [Hst] <;> iassumption
  imodintro
  isplitl [HI]; · iexact HI
  isplitl [Hp] <;> iassumption

/-- All devices' cells allocated, the facts shared out, the duties dealt. -/
theorem regroup :
    (bigSep Finset.univ fun c : Dev nD => iprop((bigSep Finset.univ fun k : Fin 31 => iprop(∃ κ, cellInv ER (Sched m ρ) κ (kcell (c, k)) ∗ reached ER (kcell (c, k)) 0)) ∗ poss c ∗ minted c) : sProp 𝕄)
      ⊢ bigSep Finset.univ (G' m ρ) := by
  rw [bigSep_sep', bigSep_sep', ← bigSep_univ_prod (fun ck : Dev nD × Fin 31 => iprop(∃ κ, cellInv ER (Sched m ρ) κ (kcell ck) ∗ reached ER (kcell ck) 0))]
  iintro ⟨#HI, Hp, Ht⟩
  ihave Ht := (deal (F := F)) $$ Ht
  iapply (bigSep_with (R := cellFacts m ρ) (Φ := fun c => iprop(poss c ∗ toks c)) fun c _ => show iprop(cellFacts m ρ ∗ poss c ∗ toks c) ⊢ G' m ρ c from Entails.of_eq rfl)
  isplitr
  · unfold cellFacts; iexact HI
  iapply (Entails.of_eq (bigSep_sep' Finset.univ (fun c : Dev nD => poss (F := F) c) toks).symm)
  isplitl [Hp] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KernelIdealProof
-- ==== Proof.Launch.lean ====
/-
The run of the kernel on the eight devices.
-/
module

public import proofs.«01_k».proof.Proof.Alloc
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.ShloMosaic.Ring (rangeSet)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the devices owe each device -/

/-- What the devices together owe at `g`, when device `d`'s `j`-th debt is of `N` at `cell (peer d j) j`. -/
def hits (cell : Dev nD → Fin 7 → GSem nD τ sig) (N : ℕ) (g : GSem nD τ sig) : ℕ := ∑ j : Fin 7, ∑ d : Dev nD, tallyAt (Ix := Unit) (cell d j) () N g ()

theorem hits_eq (cell : Dev nD → Fin 7 → GSem nD τ sig) (N : ℕ) (g : GSem nD τ sig) :
    ∑ d : Dev nD, (∑ j ∈ rangeSet 7 0 7, tallyAt (cell (peer d j) j) () N : CellTallies nD τ sig Unit) g () = hits cell N g := by
  unfold hits
  rw [Ring.rangeSet_univ]
  simp only [Finset.sum_apply, Finsupp.finset_sum_apply]
  rw [Finset.sum_comm]
  exact Finset.sum_congr rfl fun j _ => Equiv.sum_comp (ring j) (fun d => tallyAt (cell d j) () N g ())

theorem hits_none (cell : Dev nD → Fin 7 → GSem nD τ sig) (N : ℕ) (g : GSem nD τ sig) (h : ∀ d j, g ≠ cell d j) : hits cell N g = 0 := by
  unfold hits
  refine Finset.sum_eq_zero fun j _ => Finset.sum_eq_zero fun d _ => ?_
  rw [tallyAt_apply, if_neg fun e => h d j e.1]

theorem hits_one (cell : Dev nD → Fin 7 → GSem nD τ sig) (N : ℕ) (c : Dev nD) (i : Fin 7) (h : ∀ d j, cell c i = cell d j → d = c ∧ j = i) : hits cell N (cell c i) = N := by
  unfold hits
  rw [Finset.sum_eq_single i, Finset.sum_eq_single c]
  · rw [tallyAt_apply, if_pos ⟨rfl, rfl⟩]
  · intro d _ hd; rw [tallyAt_apply, if_neg fun e => hd (h d i e.1).1]
  · intro hc; exact absurd (Finset.mem_univ _) hc
  · intro j _ hj; refine Finset.sum_eq_zero fun d _ => ?_; rw [tallyAt_apply, if_neg fun e => hj (h d j e.1).2]
  · intro hi; exact absurd (Finset.mem_univ _) hi

theorem hits_bar (c : Dev nD) : hits (fun d _ => barC d) 1 (barC c) = 7 := by
  unfold hits
  have h1 : ∀ j : Fin 7, (∑ d : Dev nD, tallyAt (Ix := Unit) (barC d) () 1 (barC c) ()) = 1 := fun _ => by
    rw [Finset.sum_eq_single c]
    · rw [tallyAt_apply, if_pos ⟨rfl, rfl⟩]
    · intro d _ hd; rw [tallyAt_apply, if_neg fun e => hd (congrArg (fun g : GSem nD τ sig => g.1.1) e.1).symm]
    · intro hc; exact absurd (Finset.mem_univ _) hc
  rw [Finset.sum_congr rfl fun j _ => h1 j]
  rfl

/-- Each device's debts at the start. -/
abbrev owed₀ (c : Dev nD) : CellTallies nD τ sig Unit := owed c 0 0 0

theorem owed_sum (g : GSem nD τ sig) : ∑ d : Dev nD, owed₀ d g () = hits (fun d _ => barC d) 1 g + (hits rcvC Nx g + hits arcvC Na g) := by
  unfold owed₀ owed
  simp only [Pi.add_apply, Finsupp.add_apply, Finset.sum_add_distrib]
  rw [hits_eq (fun d _ => barC d) 1 g, hits_eq rcvC Nx g, hits_eq arcvC Na g]

theorem rcv_inj {c d : Dev nD} {i j : Fin 7} (h : rcvC c i = rcvC d j) : d = c ∧ j = i := by
  refine ⟨(congrArg (fun g : GSem nD τ sig => g.1.1) h).symm, ?_⟩
  have := congrArg Fin.val (SemLoc.dma.inj (congrArg Prod.snd h))
  rw [rcvS_val, rcvS_val] at this
  exact Fin.ext (by omega)
theorem arcv_inj {c d : Dev nD} {i j : Fin 7} (h : arcvC c i = arcvC d j) : d = c ∧ j = i := by
  refine ⟨(congrArg (fun g : GSem nD τ sig => g.1.1) h).symm, ?_⟩
  have := congrArg Fin.val (SemLoc.dma.inj (congrArg Prod.snd h))
  rw [arcvS_val, arcvS_val] at this
  exact Fin.ext (by omega)
theorem rcv_ne_arcv (c d : Dev nD) (i j : Fin 7) : rcvC c i ≠ arcvC d j := fun h => by
  have := congrArg Fin.val (SemLoc.dma.inj (congrArg Prod.snd h))
  rw [rcvS_val, arcvS_val] at this
  omega
theorem bar_ne_dma (c d : Dev nD) (q : DmaSem sig) : barC c ≠ ((d : Thread nD τ), SemLoc.dma q) := fun h => by cases congrArg Prod.snd h

theorem launch_amount (g : GSem nD τ sig) (n : ℕ) (h : hits (fun d _ => barC d) 1 g + (hits rcvC Nx g + hits arcvC Na g) = n) :
    tallyOn g (launchCredit (Pipeline.owing owed₀) 0 g) = (tallyAt g () n : CellTallies nD τ sig Unit) := by
  obtain ⟨⟨d, co⟩, sm⟩ := g
  unfold tallyAt; refine congrArg _ (Finsupp.ext fun u => ?_); cases u
  rw [Pipeline.launchCredit_owing, Finsupp.single_eq_same, owed_sum, h]

theorem launch_bar (c : Dev nD) : tallyOn (barC c) (launchCredit (Pipeline.owing owed₀) 0 (barC c)) = (tallyAt (barC c) () 7 : CellTallies nD τ sig Unit) :=
  launch_amount _ _ (by rw [hits_bar, hits_none rcvC _ _ fun d j => bar_ne_dma c d (rcvS j), hits_none arcvC _ _ fun d j => bar_ne_dma c d (arcvS j)])
theorem launch_rcv (c : Dev nD) (i : Fin 7) : tallyOn (rcvC c i) (launchCredit (Pipeline.owing owed₀) 0 (rcvC c i)) = (tallyAt (rcvC c i) () Nx : CellTallies nD τ sig Unit) :=
  launch_amount _ _ (by
    rw [hits_none (fun d _ => barC d) _ _ fun d _ => (bar_ne_dma d c (rcvS i)).symm, hits_one rcvC _ c i fun d j => rcv_inj, hits_none arcvC _ _ fun d j => rcv_ne_arcv c d i j, zero_add, add_zero])
theorem launch_arcv (c : Dev nD) (i : Fin 7) : tallyOn (arcvC c i) (launchCredit (Pipeline.owing owed₀) 0 (arcvC c i)) = (tallyAt (arcvC c i) () Na : CellTallies nD τ sig Unit) :=
  launch_amount _ _ (by
    rw [hits_none (fun d _ => barC d) _ _ fun d _ => (bar_ne_dma d c (arcvS i)).symm, hits_none rcvC _ _ fun d j => (rcv_ne_arcv d c j i).symm, hits_one arcvC _ c i fun d j => arcv_inj, zero_add, zero_add])

/-- The credits device `c` starts with. -/
theorem creds_intro (c : Dev nD) : (Pipeline.launchCred owed₀ c : sProp 𝕄) ⊢ creds c := by
  have h1 : (Pipeline.launchCred owed₀ c : sProp 𝕄) ⊢ bigSep Finset.univ fun k : Fin 31 => cred (tallyOn (kcell (c, k)) (launchCredit (Pipeline.owing owed₀) 0 (kcell (c, k)))) := by
    unfold Pipeline.launchCred
    have e : (bigSep (Finset.univ.map ⟨csem, csem_injective⟩) fun sm : SemLoc sig =>
          (cred (tallyOn ((c : Thread nD τ), sm) (launchCredit (Pipeline.owing owed₀) 0 ((c : Thread nD τ), sm))) : sProp 𝕄))
        = bigSep Finset.univ fun k : Fin 31 => cred (tallyOn (kcell (c, k)) (launchCredit (Pipeline.owing owed₀) 0 (kcell (c, k)))) := by
      rw [BI.bigSep_map]
      rfl
    rw [← e]
    exact BI.bigSep_subset (Finset.subset_univ _)
  refine h1.trans ?_
  rw [cells_split c (fun g => cred (tallyOn g (launchCredit (Pipeline.owing owed₀) 0 g))), launch_bar, bigSep_congr fun j _ => congrArg cred (launch_rcv c j),
    bigSep_congr fun j _ => congrArg cred (launch_arcv c j)]
  unfold creds
  iintro ⟨H1, -, -, H2, -, H3⟩
  isplitl [H1]; · iexact H1
  isplitl [H2] <;> iassumption

/-! ## The side conditions of the run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  rw [Pipeline.unscopedRestP_none, show cfg0.spec = spec0 from rfl, unscopedRest0_eq]
  unfold G' cellFacts
  iintro ⟨Hw, Hlev, Hcr, -, ⟨HF, Hp, Ht⟩⟩
  ihave Hc := (creds_intro (F := F) c) $$ Hcr
  imodintro
  unfold start facts wAll
  isplitl
  · isplitl [HF Hlev]
    · isplitl [HF] <;> iassumption
    isplitl [Hp]; · iexact Hp
    isplitl [Ht]; · iexact Ht
    isplitl [Hc]; · iexact Hc
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop((unscopedSems0 c ∗ wAll m c) ∗ Pipeline.ownSems0 osem c ∗ Pipeline.scopedRest cfg0.spec c) := by
  rw [show (dats m ρ 0 c).Φ (Fin.last cfg0.N) = Φ₁ m c from rfl, scopedRest0_eq]
  unfold Φ₁ scr
  iintro ⟨Hw, Hz, Hr⟩
  ihave Hz := (sems_eq (F := F) c).2 $$ Hz
  icases Hz with ⟨Ho, Hu⟩
  isplitl [Hu Hw]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have hs : semLevel (.dma (((cfgs 0).spec w).sem s)) < 1 := by fin_cases w <;> fin_cases s <;> decide
    rcases t with ⟨_ | _, ht⟩
    · exact mayWait c _ 0 0 0 (fun _ => hs) (fun _ => hs.trans (by decide)) (fun _ => hs.trans (by decide))
    · rw [show (dats m ρ 0 c).owed ⟨_ + 1, ht⟩ = owed c 7 7 7 from (owed_end c).symm]
      exact mayWait c _ 7 7 7 (fun h => absurd h (lt_irrefl 7)) (fun h => absurd h (lt_irrefl 7)) (fun h => absurd h (lt_irrefl 7))

/-! ## The run -/

def finalA (c : Dev nD) (w : Fin cfg0.W) : Buf (Elt F) ((cfg0.win w).arr.view.loc (c : Thread nD τ)) := (dats m ρ 0 c).arrAt w cfg0.N

/-- On every device the weights are as they were, and so is each array of the pipeline's after its write-backs. -/
def Outcome (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem read_w (c : Dev nD) (s' : Phys nD τ sig (Elt F)) :
    iprop(SI s' ∗ wAll m c) ⊢ (⌜s'.mem.mem ((c : Thread nD τ).loc main_arg1) = m ((c : Thread nD τ).loc main_arg1)⌝ : sProp 𝕄) := by
  unfold wAll
  iintro H
  ihave %h := (SI_pointsTo_agree) $$ H
  ipureintro
  exact funext fun i => h i (Finset.mem_univ i)

theorem read_end (c : Dev nD) (s' : Phys nD τ sig (Elt F)) :
    iprop((unscopedSems0 c ∗ wAll m c) ∗ emp ∗ SI s')
      ⊢ (|={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') : sProp 𝕄) := by
  iintro ⟨⟨Hu, Hw⟩, -, HSI⟩
  ihave %hw := (read_w m c s') $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨hs, hw⟩
  iexact HSI

def u₀ : UU := (initOf (Pipeline.cells cfgs cellOf_inj) (Pipeline.launchToks cfgs cellOf_inj), initOf protoCells protoToks)

set_option maxRecDepth 8000 in
/-- From any memory with counters at zero, every weakly fair execution of the eight devices' kernels terminates, and at its
    end every array is as described and every counter is at zero. -/
theorem run_main : θ_run defs (onTc (τ := τ) (main (F := F))) (s₀ m ρ) (fun r => Outcome m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => iprop(unscopedSems0 c ∗ wAll m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨fun w => (h c).1 w, (h c).2.2.2⟩, sem_eq_zero hs fun c => (h c).2.2.1⟩)

/-- The operand is after the run what it was. -/
theorem finalA_x (c : Dev nD) : finalA m ρ c (0 : Fin 2) = m ((c : Thread nD τ).loc main_arg0) :=
  (dats (F := F) m ρ 0 c).arrAt_in (0 : Fin 2) rfl _

end Cert.KernelIdealProof
-- ==== Proof.Frame.lean ====
/-
The frame of the kernel: after every execution its two arguments are what they were and every counter is zero.
-/
module

public import proofs.«01_k».proof.Proof.Launch

@[expose] public section

noncomputable section

namespace Cert.KernelIdealProof

open Cert.KernelIdeal Cert.KernelIdeal.Gen
open Idealize.ShloMosaic
open Idealize.ShloMosaic.TcCoe
open Idealize.SL.Sem

variable {F : FTy → Type} [FloatOps F]

/-- From zero counters every execution ends with both arguments unchanged and every counter zero. -/
theorem frame (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run _ _ _).mono (fun r h => ⟨fun c => ⟨((h.1 c).1 0).trans (finalA_x m ρ c), (h.1 c).2⟩, h.2⟩) (run_main m ρ)

end Cert.KernelIdealProof
-- ==== Proof.Printed.Frame.lean ====
/-
The frame of the kernel: after every execution its two arguments are what they were and every counter is zero.
-/
module

public import proofs.«01_k».proof.Proof.Printed.Launch

@[expose] public section

noncomputable section

namespace Cert.KernelProof

open Cert.Kernel Cert.Kernel.Gen
open Idealize.ShloMosaic
open Idealize.ShloMosaic.TcCoe
open Idealize.SL.Sem

variable {F : FTy → Type} [FloatOps F]

/-- From zero counters every execution ends with both arguments unchanged and every counter zero. -/
theorem frame (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run _ _ _).mono (fun r h => ⟨fun c => ⟨((h.1 c).1 0).trans (finalA_x m ρ c), (h.1 c).2⟩, h.2⟩) (run_main m ρ)

end Cert.KernelProof
-- ==== Proof.Loads.lean ====
/-
What the body's loads read, element by element, in terms of the kernel's arguments.
-/
module

public import proofs.«01_k».proof.Proof.Values

@[expose] public section

set_option maxRecDepth 16384

noncomputable section

namespace Cert.KernelIdealProof

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

open Idealize.ShloMosaic.ValueIdx (ix2 ix3)

/-- The staged operand block is the device's first argument. -/
theorem xstg_apply (c : Dev nD) (i : S4096x512.Idx) : xstg m ρ c i = m ((c.tc : Thread nD τ).loc main_arg0) i := by
  show m ((c.tc : Thread nD τ).loc main_arg0) ((win0_0.blk (0 : Fin 1)).view.emb i) = _
  refine congrArg (m ((c.tc : Thread nD τ).loc main_arg0)) (funext fun a => Fin.ext ?_)
  match a with
  | ⟨0, _⟩ => exact (Pipeline.Window.rect_emb_val _ _ _ _).trans (Nat.zero_add _)
  | ⟨1, _⟩ => exact (Pipeline.Window.rect_emb_val _ _ _ _).trans (Nat.zero_add _)

/-- The device's own rows: row `r` of its block of rows, column `k`. -/
theorem xin_apply (c : Dev nD) (r k : Fin 512) :
    xin m ρ c (ix2 r k) = m ((c.tc : Thread nD τ).loc main_arg0) (ix2 (⟨512 * c.val + r.val, by have h : c.val < 8 := c.isLt; omega⟩ : Fin 4096) k) := by
  refine Eq.trans ?_ (xstg_apply m ρ c _)
  show xstg m ρ c (((View.whole cc0_stg0_0).slice (Rect.unit (s := S4096x512) (k0_off3 c) S512x512.size (k0_off3_inb c))).emb (ix2 r k)) = _
  refine congrArg (xstg m ρ c) (funext fun a => Fin.ext ?_)
  refine (ValueKit.view_emb_slice_whole_unit_val cc0_stg0_0 _ _ _ _ a).trans ?_
  match a with
  | ⟨0, _⟩ => exact congrArg (· + r.val) (congrFun (k0_off3_eq c) 0)
  | ⟨1, _⟩ => exact (congrArg (· + k.val) (congrFun (k0_off3_eq c) 1)).trans (Nat.zero_add _)

/-- The rows from source `j`: those of that device's operand block that belong to `c`. -/
theorem rin_apply (c : Dev nD) (j : Fin 7) (r k : Fin 512) :
    rin m ρ c j (ix3 (0 : Fin 1) r k) = m (((source c j).tc : Thread nD τ).loc main_arg0) (ix2 (⟨512 * c.val + r.val, by have h : c.val < 8 := c.isLt; omega⟩ : Fin 4096) k) := by
  refine Eq.trans ?_ (xstg_apply m ρ (source c j) _)
  show rBuf m ρ c (((View.whole cc0_scratch1).slice (Rect.unit (s := S7x512x512) ![j.val, 0, 0] S1x512x512.size (inb_r j))).emb (ix3 (0 : Fin 1) r k)) = rBuf m ρ c (ix3 j r k)
  refine congrArg (rBuf m ρ c) (funext fun a => Fin.ext ?_)
  refine (ValueKit.view_emb_slice_whole_unit_val cc0_scratch1 _ _ _ _ a).trans ?_
  match a with
  | ⟨0, _⟩ => exact Nat.add_zero _
  | ⟨1, _⟩ => exact Nat.zero_add _
  | ⟨2, _⟩ => exact Nat.zero_add _

/-- The weight rows of step `k`: block `c - k` of the second argument's rows, counted round the ring. -/
theorem win_apply (c : Dev nD) (k : Fin 8) (s : Fin 2) (r : Fin 512) (l : Fin 2048) :
    win m c k s (ix3 (0 : Fin 1) r l)
      = m ((c.tc : Thread nD τ).loc main_arg1) (ix2 (⟨512 * ((c.val + 8 - k.val) % 8) + r.val, by omega⟩ : Fin 4096) l) := by
  show wBuf m c k (((View.whole cc0_scratch0).slice (Rect.unit (s := S2x512x2048) ![s.val, 0, 0] S1x512x2048.size (inb_wb s))).emb (ix3 (0 : Fin 1) r l)) = wBuf m c k (ix3 s r l)
  refine congrArg (wBuf m c k) (funext fun a => Fin.ext ?_)
  refine (ValueKit.view_emb_slice_whole_unit_val cc0_scratch0 _ _ _ _ a).trans ?_
  match a with
  | ⟨0, _⟩ => exact Nat.add_zero _
  | ⟨1, _⟩ => exact Nat.zero_add _
  | ⟨2, _⟩ => exact Nat.zero_add _

omit [FloatOps F] in
/-- The landing buffer for maxima, read in slot `j`, lane 0: the vector of source `j`, lane 0. -/
theorem aLand_apply (V : Dev nD → (cc0_scratch2 : Ref sig .tc).ty.Contents (Elt F)) (c : Dev nD) (j : Fin 7) :
    arM.view.readAt (Elt F) (Rect.unit (s := S7x1x128) ![j.val, 0, 0] S1x1x1.size (inb_am j)).toLoadRect (aLand V c) (ix3 (0 : Fin 1) (0 : Fin 1) (0 : Fin 1))
      = V (source c j) (ix2 (0 : Fin 1) (0 : Fin 128)) := by
  show aLand V c (((View.whole cc0_scratch3).slice (Rect.unit (s := S7x1x128) ![j.val, 0, 0] S1x1x1.size (inb_am j))).emb (ix3 (0 : Fin 1) (0 : Fin 1) (0 : Fin 1))) = aLand V c (ix3 j (0 : Fin 1) (0 : Fin 128))
  refine congrArg (aLand V c) (funext fun a => Fin.ext ?_)
  refine (ValueKit.view_emb_slice_whole_unit_val cc0_scratch3 _ _ _ _ a).trans ?_
  match a with
  | ⟨0, _⟩ => exact Nat.add_zero _
  | ⟨1, _⟩ => exact Nat.zero_add _
  | ⟨2, _⟩ => exact Nat.zero_add _

/-- The first lane of source `j`'s vector is that device's maximum. -/
theorem ain_apply (c : Dev nD) (j : Fin 7) : ain m ρ c j (ix3 (0 : Fin 1) (0 : Fin 1) (0 : Fin 1)) = amaxV m ρ (source c j) (ix2 (0 : Fin 1) (0 : Fin 128)) :=
  aLand_apply (amaxV m ρ) c j

end Cert.KernelIdealProof
-- ==== Proof.Extended.lean ====
/-
Facts of the extended reals: sums over the ring of blocks, maxima as upper bounds, and one quantised element.
-/
module

public import Idealize.ShloMosaic.PureOps.Ideal.Laws
public import Idealize.ShloMosaic.PureOps.Reduce
public import Idealize.ShloMosaic.Lib.ValueIdx

@[expose] public section

noncomputable section

namespace Cert.Quant

open Idealize.ShloMosaic

/-- Eight blocks of 512 terms, taken backwards round the ring from block `c`, are all 4096 terms. -/
theorem sum_ring {M : Type} [AddCommMonoid M] (c : Fin 8) (f : Fin 4096 → M) :
    ∑ n : Fin 8, ∑ k : Fin 512, f ⟨512 * ((c.val + 8 - n.val) % 8) + k.val, by omega⟩ = ∑ k : Fin 4096, f k := by
  have hb : Function.Bijective fun p : Fin 8 × Fin 512 => (⟨512 * ((c.val + 8 - p.1.val) % 8) + p.2.val, by omega⟩ : Fin 4096) := by
    rw [Fintype.bijective_iff_injective_and_card]
    refine ⟨fun p q e => ?_, by simp⟩
    have e' : 512 * ((c.val + 8 - p.1.val) % 8) + p.2.val = 512 * ((c.val + 8 - q.1.val) % 8) + q.2.val := congrArg Fin.val e
    have h1 := p.1.isLt; have h2 := q.1.isLt; have h3 := p.2.isLt; have h4 := q.2.isLt; have h5 := c.isLt
    exact Prod.ext (Fin.ext (by omega)) (Fin.ext (by omega))
  rw [← Fintype.sum_prod_type' (f := fun (n : Fin 8) (k : Fin 512) => f ⟨512 * ((c.val + 8 - n.val) % 8) + k.val, by omega⟩)]
  exact Fintype.sum_bijective _ hb _ _ fun _ => rfl

/-- A number bounded below by zero is its own absolute value. -/
theorem abs_relu (y : EReal) : max (max y 0) (-(max y 0)) = max y 0 := by
  have h : (0 : EReal) ≤ max y 0 := le_max_right _ _
  exact max_eq_left ((EReal.neg_le_zero.mpr h).trans h)

/-- The bit pattern of negative infinity. -/
theorem ofBits_neg_inf : Ideal.ofBits .f32 0xFF800000#32 = ⊥ := by simp [Ideal.ofBits, Ideal.ieee]

/-- A maximum of everything in an array is at most `z` where every element is: a kernel's reduction. -/
theorem maxReduce_le {s t : Shape} {axes : List (Fin s.rank)} (src : FVec Ideal s .f32) (h : s.Reduces axes t)
    (hφ : FKind.Formats .f32) (hacc : (0xFF800000#32 : BitVec 32) = FKind.maximumf.neutral .f32 hφ) (ht : ∀ b, t.size b = 1) (j : t.Idx) (z : EReal) :
    multiReduction .maximumf axes t src 0xFF800000#32 h hφ hacc j ≤ z ↔ ∀ i, src i ≤ z := by
  rw [multiReduction_maximumf_eq_fold]
  refine (Finset.fold_max_le (b := Ideal.ofBits .f32 0xFF800000#32) (f := src) z).trans ?_
  rw [ofBits_neg_inf]
  refine ⟨fun e i => e.2 i (Finset.mem_filter.mpr ⟨Finset.mem_univ _, funext fun b => Fin.ext ?_⟩), fun e => ⟨bot_le, fun i _ => e i⟩⟩
  have h1 := (h.drop i b).isLt; have h2 := (j b).isLt; have h3 := ht b; omega

/-- A maximum of everything in an array is at most `z` where every element is: the host's reduction to a scalar. -/
theorem hostMax_le {s t : Shape} {axes : List (Fin s.rank)} (src : FVec Ideal s .f32) (h : s.ReducesTo axes t)
    (hu : 0 < (⟨0, ![]⟩ : Shape).numel) (ht : ∀ b, t.size b = 1) (j : t.Idx) (z : EReal) :
    Host.reduce (FloatOps.maximumf (F := Ideal) (φ := .f32)) src (constant (F := Ideal) ⟨0, ![]⟩ .f32 0xFF800000#32) h hu j ≤ z ↔ ∀ i, src i ≤ z := by
  rw [Host.reduce_eq_fold]
  refine (Finset.fold_max_le (b := Ideal.ofBits .f32 0xFF800000#32) (f := src) z).trans ?_
  rw [ofBits_neg_inf]
  refine ⟨fun e i => e.2 i (Finset.mem_filter.mpr ⟨Finset.mem_univ _, funext fun b => Fin.ext ?_⟩), fun e => ⟨bot_le, fun i _ => e i⟩⟩
  have h1 := (h.drop i b).isLt; have h2 := (j b).isLt; have h3 := ht b; omega

/-- One element quantised: `y` over the scale `g / 127`, rounded to even, clipped to ±127, times the scale. -/
def quant (y g : Ideal .f32) : Ideal .f32 :=
  FloatOps.mulf
    (FloatOps.minimumf (FloatOps.ofBits .f32 0x42FE0000#32)
      (FloatOps.maximumf (FloatOps.ofBits .f32 0xC2FE0000#32)
        (FloatOps.roundeven (FloatOps.divf y (FloatOps.divf g (FloatOps.ofBits .f32 0x42FE0000#32))))))
    (FloatOps.divf g (FloatOps.ofBits .f32 0x42FE0000#32))

end Cert.Quant
-- ==== Proof.Payload.lean ====
/-
What the body's pure expressions compute over the extended reals, element by element.
-/
module

public import proofs.«01_k».proof.Proof.Gen.KernelIdeal.Skeleton
public import proofs.«01_k».proof.Proof.Extended
public import Idealize.ShloMosaic.Lib.MatmulPlain
public import Idealize.ShloMosaic.Lib.ValueLayout

@[expose] public section

set_option maxRecDepth 16384

noncomputable section

namespace Cert.KernelIdealProof

open Cert.KernelIdeal Cert.KernelIdeal.Gen
open Idealize.ShloMosaic
open Idealize.ShloMosaic.ValueIdx (ix1 ix2 ix3 shapeCast_1ab_ab_apply shapeCast_ab_1ab_apply)
open Cert.Quant

/-- One block's product, element by element, from zero. -/
theorem product_apply (x : FVec Ideal S512x512 .f32) (w : FVec Ideal S512x2048 .f32) (r : Fin 512) (l : Fin 2048) :
    matmul (F := Ideal) dot_S512x512_S512x2048_S512x2048_1_0_0_1_n_n none x w (constant S512x2048 .f32 0x00000000#32) (ix2 r l)
      = ∑ k : Fin 512, x (ix2 r k) * w (ix2 k l) := by
  refine (Ideal.matmul_plain_apply none x w (constant S512x2048 .f32 0x00000000#32) r l).trans ?_
  refine (congrArg (· + _) (?_ : _ = (0 : EReal))).trans (zero_add _)
  exact Ideal.ofBits_zero_f32

/-- The first step's product. -/
theorem pay1_apply (x : Vec Ideal S512x512 .f32) (w : Vec Ideal S1x512x2048 .f32) (r : Fin 512) (l : Fin 2048) :
    k0_pay1 (F := Ideal) x w (ix2 r l) = ∑ k : Fin 512, x (ix2 r k) * w (ix3 (0 : Fin 1) k l) := by
  unfold k0_pay1
  refine (product_apply _ _ r l).trans (Finset.sum_congr rfl fun k _ => ?_)
  rw [shapeCast_self]
  exact congrArg (x (ix2 r k) * ·) (shapeCast_1ab_ab_apply w _ k l)

/-- A later step's: the product added to what was there. -/
theorem pay2_apply (x : Vec Ideal S1x512x512 .f32) (w : Vec Ideal S1x512x2048 .f32) (a : Vec Ideal S512x2048 .f32) (r : Fin 512) (l : Fin 2048) :
    k0_pay2 (F := Ideal) x w a (ix2 r l) = a (ix2 r l) + ∑ k : Fin 512, x (ix3 (0 : Fin 1) r k) * w (ix3 (0 : Fin 1) k l) := by
  unfold k0_pay2
  rw [shapeCast_self]
  refine congrArg (a (ix2 r l) + ·) ((product_apply _ _ r l).trans (Finset.sum_congr rfl fun k _ => ?_))
  exact congrArg₂ (· * ·) (shapeCast_1ab_ab_apply x _ r k) (shapeCast_1ab_ab_apply w _ k l)

/-- The lower bound of zero. -/
theorem pay10_apply (a : Vec Ideal S512x2048 .f32) (i : S512x2048.Idx) : k0_pay10 (F := Ideal) a i = max (a i) 0 := by
  unfold k0_pay10
  rw [shapeCast_self]
  exact congrArg (max (a i)) Ideal.ofBits_zero_f32

/-- The one index of a one-element vector. -/
theorem idx_one (i j : S1.Idx) : i = j :=
  funext fun b => by
    match b with
    | ⟨0, _⟩ => exact Subsingleton.elim (α := Fin 1) _ _

/-- The one element of a reduction to one element, read back as a scalar. -/
theorem extract_cast_apply (v : FVec Ideal S1 .f32) :
    extractAt ![0, 0, 0] (shapeCast S1x1x1 v shapeCasts_S1_S1x1x1) inpos_S1x1x1_p0_0_0 = v (ix1 (0 : Fin 1)) := by
  unfold extractAt shapeCast
  exact congrArg v (idx_one _ _)

/-- The device's maximum is at most `z` where every element is. -/
theorem pay11_le (a : Vec Ideal S512x2048 .f32) (z : EReal) : (k0_pay11 (F := Ideal) a : EReal) ≤ z ↔ ∀ i : S512x2048.Idx, a i ≤ z := by
  unfold k0_pay11
  refine (Iff.of_eq (congrArg (fun y : EReal => y ≤ z) (extract_cast_apply _))).trans ?_
  refine (maxReduce_le _ reduces_S1x512x2048_S1 (.inl rfl) rfl (fun b => by match b with | ⟨0, _⟩ => rfl) _ z).trans ?_
  rw [shapeCast_self]
  refine ⟨fun e i => ?_, fun e i => e _⟩
  have h := e (ix3 (0 : Fin 1) (i 0 : Fin 512) (i 1 : Fin 2048))
  exact ((congrArg a (ValueIdx.eq_ix2 i)).trans
    (shapeCast_ab_1ab_apply (a := 512) (b := 2048) a shapeCasts_S512x2048_S1x512x2048 0 (i 0) (i 1)).symm).trans_le h

/-- A scalar broadcast and reshaped is that scalar in every lane. -/
theorem cast_broadcast (x : Ideal .f32) (i : S1x128.Idx) :
    shapeCast S1x128 (broadcast S128 x) shapeCasts_S128_S1x128 i = x := rfl

/-- Every lane of the vector sent is the device's maximum. -/
theorem pay12_apply (a : Vec Ideal S512x2048 .f32) (i : S1x128.Idx) : k0_pay12 (F := Ideal) a i = k0_pay11 (F := Ideal) a := by
  unfold k0_pay12
  generalize k0_pay11 (F := Ideal) a = x
  exact cast_broadcast x i

/-- The lane taken from a received vector. -/
theorem extract_apply (v : FVec Ideal S1x1x1 .f32) : extractAt ![0, 0, 0] v inpos_S1x1x1_p0_0_0 = v (ix3 (0 : Fin 1) (0 : Fin 1) (0 : Fin 1)) :=
  congrArg v (funext fun a => by match a with | ⟨0, _⟩ => rfl | ⟨1, _⟩ => rfl | ⟨2, _⟩ => rfl)

/-- The maximum after all seven vectors. -/
theorem pay15_eq (g : Ideal .f32) (v : Fin 7 → FVec Ideal S1x1x1 .f32) :
    k0_pay15 (F := Ideal) (k0_pay14 (k0_pay13 g (v 0)) (v 1) (v 2) (v 3)) (v 4) (v 5) (v 6)
      = max (max (max (max (max (max (max (g : EReal) (v 0 (ix3 (0 : Fin 1) (0 : Fin 1) (0 : Fin 1)))) (v 1 (ix3 (0 : Fin 1) (0 : Fin 1) (0 : Fin 1))))
          (v 2 (ix3 (0 : Fin 1) (0 : Fin 1) (0 : Fin 1)))) (v 3 (ix3 (0 : Fin 1) (0 : Fin 1) (0 : Fin 1)))) (v 4 (ix3 (0 : Fin 1) (0 : Fin 1) (0 : Fin 1))))
          (v 5 (ix3 (0 : Fin 1) (0 : Fin 1) (0 : Fin 1)))) (v 6 (ix3 (0 : Fin 1) (0 : Fin 1) (0 : Fin 1))) := by
  unfold k0_pay15 k0_pay14 k0_pay13
  rw [extract_apply (v 0), extract_apply (v 1), extract_apply (v 2), extract_apply (v 3), extract_apply (v 4), extract_apply (v 5), extract_apply (v 6)]
  rfl

/-- The quantised result. -/
theorem pay16_apply (g : Ideal .f32) (a : Vec Ideal S512x2048 .f32) (i : S512x2048.Idx) : k0_pay16 (F := Ideal) g a i = quant (a i) g := by
  unfold k0_pay16
  rw [shapeCast_self]
  rfl

end Cert.KernelIdealProof
-- ==== Proof.Product.lean ====
/-
The eight products add up to the device's rows of the whole product, and the eight maxima to the whole maximum.
-/
module

public import proofs.«01_k».proof.Proof.Loads
public import proofs.«01_k».proof.Proof.Payload
public import Idealize.ShloMosaic.Lib.Layout

@[expose] public section

set_option maxRecDepth 16384

noncomputable section

namespace Cert.KernelIdealProof

open Cert.KernelIdeal Cert.KernelIdeal.Gen
open Idealize.ShloMosaic
open Idealize.ShloMosaic.TcCoe
open Idealize.ShloMosaic.ValueIdx (ix1 ix2 ix3)
open Cert.Quant

/-- The whole first operand, and the whole product bounded below by zero. -/
abbrev Whole := FVec Ideal ⟨2, ![4096, 4096]⟩ .f32
/-- The whole second operand, and a whole result. -/
abbrev Rows := FVec Ideal ⟨2, ![4096, 2048]⟩ .f32

/-- The whole product at row `R`, column `l`, bounded below by zero. -/
def relu (x : Whole) (w : Rows) (R : Fin 4096) (l : Fin 2048) : EReal := max (∑ k : Fin 4096, x (ix2 R k) * w (ix2 k l)) 0

/-- Row `r` of device `c` among all rows. -/
def row (c : Fin 8) (r : Fin 512) : Fin 4096 := ⟨512 * c.val + r.val, by omega⟩

/-- Every row is one device's. -/
theorem row_surj (R : Fin 4096) : ∃ c r, row c r = R :=
  ⟨⟨R.val / 512, by omega⟩, ⟨R.val % 512, by omega⟩, Fin.ext (by show 512 * (R.val / 512) + R.val % 512 = R.val; omega)⟩

/-- The block of columns step `n` uses on device `c`, as one of the whole operand's columns. -/
def col (c : Fin 8) (n : ℕ) (k : Fin 512) : Fin 4096 := ⟨512 * ((c.val + 8 - n) % 8) + k.val, by omega⟩

/-- A column of a device's block of the first operand is the matching column of the whole. -/
theorem block_cols (c : Fin 8) (x : Whole) (R : Fin 4096) (k : Fin 512) :
    Layout.block ⟨2, ![4096, 512]⟩ ⟨2, ![4096, 4096]⟩ 1 8 c x (by decide) (ix2 R k) = x (ix2 R (row c k)) := by
  rw [Layout.block_apply]
  refine congrArg x (funext fun a => Fin.ext ?_)
  match a with
  | ⟨0, _⟩ => exact Layout.Tiles.idx_val _ c _ 0
  | ⟨1, _⟩ => exact (Layout.Tiles.idx_val _ c _ 1).trans (by show c.val * 512 + k.val = 512 * c.val + k.val; omega)

/-- A row of a device's block of the result is the matching row of the whole. -/
theorem block_rows (c : Fin 8) (y : Rows) (r : Fin 512) (l : Fin 2048) :
    Layout.block ⟨2, ![512, 2048]⟩ ⟨2, ![4096, 2048]⟩ 0 8 c y (by decide) (ix2 r l) = y (ix2 (row c r) l) := by
  rw [Layout.block_apply]
  refine congrArg y (funext fun a => Fin.ext ?_)
  match a with
  | ⟨0, _⟩ => exact (Layout.Tiles.idx_val _ c _ 0).trans (by show c.val * 512 + r.val = 512 * c.val + r.val; omega)
  | ⟨1, _⟩ => exact Layout.Tiles.idx_val _ c _ 1

variable (m : (ℓ : Loc nD τ sig) → Buf (Elt Ideal) ℓ) (ρ : Dev nD → PrngReg) (x : Whole) (w : Rows)

/-- The arguments: each device holds its columns of `x` and all of `w`. -/
def Holds : Prop := ∀ c : Dev nD,
  m ((c.tc : Thread nD τ).loc main_arg0) = Layout.block ⟨2, ![4096, 512]⟩ ⟨2, ![4096, 4096]⟩ 1 8 c x
  ∧ m ((c.tc : Thread nD τ).loc main_arg1) = w

variable {m x w}

/-- The device's own rows, as entries of the whole operand. -/
theorem Holds.xin_eq (H : Holds m x w) (c : Dev nD) (r k : Fin 512) : xin m ρ c (ix2 r k) = x (ix2 (row c r) (col c 0 k)) := by
  refine (xin_apply m ρ c r k).trans ((congrFun (H c).1 _).trans ((block_cols c x (row c r) k).trans ?_))
  refine congrArg (fun q => x (ix2 (row c r) q)) (Fin.ext ?_)
  show 512 * c.val + k.val = 512 * ((c.val + 8 - 0) % 8) + k.val
  have h : c.val < 8 := c.isLt
  omega

/-- The rows received for step `j + 1`, as entries of the whole operand. -/
theorem Holds.rin_eq (H : Holds m x w) (c : Dev nD) (j : Fin 7) (r k : Fin 512) :
    rin m ρ c j (ix3 (0 : Fin 1) r k) = x (ix2 (row c r) (col c (j.val + 1) k)) := by
  refine (rin_apply m ρ c j r k).trans ((congrFun (H (source c j)).1 _).trans ((block_cols (source c j) x (row c r) k).trans ?_))
  refine congrArg (fun q => x (ix2 (row c r) q)) (Fin.ext ?_)
  show 512 * ((c.val + 7 - j.val) % 8) + k.val = 512 * ((c.val + 8 - (j.val + 1)) % 8) + k.val
  have h : c.val < 8 := c.isLt
  omega

/-- The weights of step `n`, as entries of the whole operand. -/
theorem Holds.win_eq (H : Holds m x w) (c : Dev nD) (n : Fin 8) (s : Fin 2) (k : Fin 512) (l : Fin 2048) :
    win m c n s (ix3 (0 : Fin 1) k l) = w (ix2 (col c n.val k) l) :=
  (win_apply m c n s k l).trans (congrFun (H c).2 _)

/-- After step `n` the accumulator is the sum of the first `n + 1` blocks' products. -/
theorem Holds.acc_eq (H : Holds m x w) (c : Dev nD) (r : Fin 512) (l : Fin 2048) : (n : ℕ) → n ≤ 7 →
    acc m ρ c n (ix2 r l) = ∑ s ∈ Finset.range (n + 1), ∑ k : Fin 512, x (ix2 (row c r) (col c s k)) * w (ix2 (col c s k) l)
  | 0, _ => by
    rw [Finset.sum_range_one]
    refine (pay1_apply _ _ r l).trans (Finset.sum_congr rfl fun k _ => ?_)
    exact congrArg₂ (· * ·) (H.xin_eq ρ c r k) (H.win_eq c 0 0 k l)
  | n + 1, h => by
    rw [Finset.sum_range_succ, ← H.acc_eq c r l n (by omega)]
    have e : acc m ρ c (n + 1) = _ := dif_pos (show n < 7 by omega)
    refine (congrFun e (ix2 r l)).trans ((pay2_apply _ _ _ r l).trans ?_)
    refine congrArg (acc m ρ c n (ix2 r l) + ·) (Finset.sum_congr rfl fun k _ => ?_)
    exact congrArg₂ (· * ·) (H.rin_eq ρ c ⟨n, by omega⟩ r k) (H.win_eq c ⟨n + 1, by omega⟩ _ k l)

/-- The device's result before quantisation is its rows of the whole product, bounded below by zero. -/
theorem Holds.rel_eq (H : Holds m x w) (c : Dev nD) (r : Fin 512) (l : Fin 2048) : rel m ρ c (ix2 r l) = relu x w (row c r) l := by
  refine (pay10_apply _ _).trans (congrArg (max · (0 : EReal)) ((H.acc_eq ρ c r l 7 le_rfl).trans ?_))
  rw [Finset.sum_range]
  exact sum_ring c fun k => x (ix2 (row c r) k) * w (ix2 k l)

/-- A device's maximum is at most `z` where all its rows are. -/
theorem Holds.lmax_le (H : Holds m x w) (c : Dev nD) (z : EReal) : (lmax m ρ c : EReal) ≤ z ↔ ∀ r l, relu x w (row c r) l ≤ z := by
  refine (pay11_le _ z).trans ⟨fun e r l => (H.rel_eq ρ c r l).symm.trans_le (e _), fun e i => ?_⟩
  exact ((congrArg (rel m ρ c) (ValueIdx.eq_ix2 i)).trans (H.rel_eq ρ c (i 0) (i 1))).trans_le (e (i 0) (i 1))

/-- The lane a device takes from source `j`'s vector is that source's maximum. -/
theorem ain_eq (c : Dev nD) (j : Fin 7) : ain m ρ c j (ix3 (0 : Fin 1) (0 : Fin 1) (0 : Fin 1)) = lmax m ρ (source c j) :=
  (ain_apply m ρ c j).trans (pay12_apply _ _)

/-- A device and its seven sources are all the devices. -/
theorem all_devices (c d : Dev nD) : d = c ∨ ∃ j, d = source c j := by revert c d; decide

/-- The maximum over the devices, as each device computes it, is at most `z` where the whole product is. -/
theorem Holds.gmax_le (H : Holds m x w) (c : Dev nD) (z : EReal) : (gmax m ρ c : EReal) ≤ z ↔ ∀ R l, relu x w R l ≤ z := by
  have e : (gmax m ρ c : EReal) = _ := pay15_eq (lmax m ρ c) (ain m ρ c)
  rw [e]
  simp only [ain_eq, max_le_iff, H.lmax_le]
  constructor
  · rintro ⟨⟨⟨⟨⟨⟨⟨h, h0⟩, h1⟩, h2⟩, h3⟩, h4⟩, h5⟩, h6⟩ R l
    obtain ⟨d, r, rfl⟩ := row_surj R
    rcases all_devices c d with rfl | ⟨j, rfl⟩
    · exact h r l
    · match j with
      | 0 => exact h0 r l
      | 1 => exact h1 r l
      | 2 => exact h2 r l
      | 3 => exact h3 r l
      | 4 => exact h4 r l
      | 5 => exact h5 r l
      | 6 => exact h6 r l
  · intro h
    exact ⟨⟨⟨⟨⟨⟨⟨fun r l => h _ l, fun r l => h _ l⟩, fun r l => h _ l⟩, fun r l => h _ l⟩, fun r l => h _ l⟩, fun r l => h _ l⟩, fun r l => h _ l⟩, fun r l => h _ l⟩

/-- A device's quantised result, element by element. -/
theorem Holds.outAt_eq (H : Holds m x w) (c : Dev nD) (g : EReal) (hg : ∀ z, g ≤ z ↔ ∀ R l, relu x w R l ≤ z) (r : Fin 512) (l : Fin 2048) :
    outAt m ρ c (ix2 r l) = quant (relu x w (row c r) l) g :=
  (pay16_apply _ _ _).trans (congrArg₂ quant (H.rel_eq ρ c r l) (eq_of_forall_ge_iff fun z => (H.gmax_le ρ c z).trans (hg z).symm))

end Cert.KernelIdealProof
-- ==== Proof.Reference.lean ====
/-
The reference's result, element by element: the whole product bounded below by zero, its maximum, and each element quantised.
-/
module

public import proofs.«01_k».proof.Proof.Gen.ReferenceIdeal.Run
public import proofs.«01_k».proof.Proof.Extended
public import Idealize.ShloMosaic.Lib.MatmulPlain
public import Idealize.ShloMosaic.Lib.ValueLayout

@[expose] public section

set_option maxRecDepth 16384

noncomputable section

namespace Cert.ReferenceIdealProof

open Cert.ReferenceIdeal Cert.ReferenceIdeal.Gen
open Idealize.ShloMosaic
open Idealize.ShloMosaic.ValueIdx (ix2)
open Cert.Quant
open Idealize.ShloMosaic.TcCoe
open Idealize.SL.Sem

/-- The whole product bounded below by zero, as the reference writes it. -/
def relu (x : FVec Ideal S4096x4096 .f32) (w : FVec Ideal S4096x2048 .f32) : FVec Ideal S4096x2048 .f32 :=
  maximumf (Host.dotGeneral dot_S4096x4096_S4096x2048_S4096x2048_1_0_0_1_n_n none x w)
    (broadcastInDim S4096x2048 ![] bcast_S_S4096x2048 (constant S_ .f32 0x00000000#32))

/-- The maximum of an array's absolute values, as the reference writes it. -/
def amax (y : FVec Ideal S4096x2048 .f32) : FVec Ideal S_ .f32 :=
  Host.reduce FloatOps.maximumf (Host.absf y) (constant S_ .f32 0xFF800000#32) reducesTo_S4096x2048_S_d0_1 h_S_

/-- An array quantised at the scale of `a`, as the reference writes it. -/
def quantised (y : FVec Ideal S4096x2048 .f32) (a : FVec Ideal S_ .f32) : FVec Ideal S4096x2048 .f32 :=
  mulf (minimumf (broadcastInDim S4096x2048 ![] bcast_S_S4096x2048 (id (constant S_ .f32 0x42FE0000#32)))
      (maximumf (broadcastInDim S4096x2048 ![] bcast_S_S4096x2048 (id (constant S_ .f32 0xC2FE0000#32)))
        (Host.roundeven (Host.divf y (broadcastInDim S4096x2048 ![] bcast_S_S4096x2048 (Host.divf a (constant S_ .f32 0x42FE0000#32)))))))
    (broadcastInDim S4096x2048 ![] bcast_S_S4096x2048 (Host.divf a (constant S_ .f32 0x42FE0000#32)))

/-- The reference's result. -/
def result (x : FVec Ideal S4096x4096 .f32) (w : FVec Ideal S4096x2048 .f32) : FVec Ideal S4096x2048 .f32 :=
  quantised (relu x w) (amax (relu x w))

/-- From zero counters the reference ends with its result there and its arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

variable (x : FVec Ideal S4096x4096 .f32) (w : FVec Ideal S4096x2048 .f32)

/-- One element of the whole product, bounded below by zero. -/
theorem relu_apply (R : Fin 4096) (l : Fin 2048) : relu x w (ix2 R l) = max (∑ k : Fin 4096, x (ix2 R k) * w (ix2 k l)) (0 : EReal) := by
  have e : Host.dotGeneral dot_S4096x4096_S4096x2048_S4096x2048_1_0_0_1_n_n none x w (ix2 R l) = (∑ k : Fin 4096, x (ix2 R k) * w (ix2 k l) : EReal) :=
    (Ideal.matmul_plain_apply none x w (fun _ => (0 : EReal)) R l).trans (zero_add _)
  exact congrArg₂ (fun a b : EReal => max a b) e Ideal.ofBits_zero_f32

/-- An array bounded below by zero is its own absolute values. -/
theorem abs_relu (i : S4096x2048.Idx) : Host.absf (relu x w) i = relu x w i := by
  have e : relu x w i = max (∑ k : Fin 4096, x (ix2 (i 0) k) * w (ix2 k (i 1))) (0 : EReal) :=
    (congrArg (relu x w) (ValueIdx.eq_ix2 i)).trans (relu_apply x w (i 0) (i 1))
  show max (relu x w i : EReal) (-(relu x w i : EReal)) = relu x w i
  rw [e]
  exact Quant.abs_relu _

/-- The maximum is at most `z` where every element is. -/
theorem amax_le (j : S_.Idx) (z : EReal) : (amax (relu x w) j : EReal) ≤ z ↔ ∀ R l, (max (∑ k : Fin 4096, x (ix2 R k) * w (ix2 k l)) (0 : EReal)) ≤ z := by
  refine (hostMax_le (Host.absf (relu x w)) reducesTo_S4096x2048_S_d0_1 h_S_ (fun b => b.elim0) j z).trans ?_
  refine ⟨fun e R l => ((abs_relu x w _).trans (relu_apply x w R l)).symm.trans_le (e (ix2 R l)), fun e i => ?_⟩
  exact ((abs_relu x w i).trans ((congrArg (relu x w) (ValueIdx.eq_ix2 i)).trans (relu_apply x w (i 0) (i 1)))).trans_le (e (i 0) (i 1))

/-- An array quantised, element by element. -/
theorem quantised_apply (y : FVec Ideal S4096x2048 .f32) (a : FVec Ideal S_ .f32) (i : S4096x2048.Idx) :
    quantised y a i = quant (y i) (a fun b => b.elim0) := by
  have e : ∀ b : FVec Ideal S_ .f32, broadcastInDim S4096x2048 ![] bcast_S_S4096x2048 b i = b fun b => b.elim0 :=
    fun b => congrArg b (funext fun q => q.elim0)
  unfold quantised quant
  exact congrArg₂ (fun s t : EReal => FloatOps.mulf (F := Ideal) (φ := .f32) (FloatOps.minimumf (FloatOps.ofBits .f32 0x42FE0000#32)
    (FloatOps.maximumf (FloatOps.ofBits .f32 0xC2FE0000#32) (FloatOps.roundeven (FloatOps.divf (y i) s)))) t) (e _) (e _)

/-- One element of the reference's result. -/
theorem result_apply (R : Fin 4096) (l : Fin 2048) :
    result x w (ix2 R l) = quant (max (∑ k : Fin 4096, x (ix2 R k) * w (ix2 k l)) (0 : EReal)) (amax (relu x w) fun b => b.elim0) := by
  unfold result
  generalize amax (relu x w) = a
  rw [quantised_apply, relu_apply]

end Cert.ReferenceIdealProof
-- ==== Proof.Result.lean ====
/-
The kernel's result array: after every execution it holds what the body left in the output's staging buffer.
-/
module

public import proofs.«01_k».proof.Proof.Launch
public import Idealize.ShloMosaic.Lib.Pipeline.ValueKit

@[expose] public section

set_option maxRecDepth 16384

noncomputable section

namespace Cert.KernelIdealProof

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

/-- The grid's one point writes back the whole result array. -/
theorem whole_out : (cfg0.win (1 : Fin 2)).WholeAt t0_0 := by decide +kernel

/-- Device `c`'s result array ends holding `outAt m ρ c`. -/
theorem finalA_out (c : Dev nD) : finalA m ρ c (1 : Fin 2) = outAt m ρ c := by
  refine (dats m ρ 0 c).arrAt_eq_of_after_last (1 : Fin 2) t0_0 whole_out (outAt m ρ c) fun j => ?_
  show outAt m ρ c _ = outAt m ρ c _
  exact congrArg (outAt m ρ c) (funext fun a => Fin.ext rfl)

/-- From zero counters every execution ends with device `c`'s result at `outAt m ρ c` and its arguments unchanged. -/
theorem run_result : θ_run (defs (F := F)) (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run _ _ _).mono (fun r h c => ⟨((h.1 c).1 (1 : Fin 2)).trans (finalA_out m ρ c), ((h.1 c).1 (0 : Fin 2)).trans (finalA_x m ρ c), (h.1 c).2⟩)
    (run_main m ρ)

end Cert.KernelIdealProof
-- ==== Proof.Equation.lean ====
/-
The kernel and the reference agree: each device's result is its block of the reference's.
-/
module

public import proofs.«01_k».proof.Proof.Product
public import proofs.«01_k».proof.Proof.Reference
public import proofs.«01_k».proof.Proof.Result
public import proofs.«01_k».proof.Defs

@[expose] public section

set_option maxRecDepth 16384

noncomputable section

namespace Cert.KernelIdealProof

open Idealize.ShloMosaic
open Idealize.ShloMosaic.TcCoe
open Idealize.ShloMosaic.ValueIdx (ix1 ix2 ix3)
open Idealize.SL.Sem

variable {m : (ℓ : Loc Cert.KernelIdeal.nD Cert.KernelIdeal.τ Cert.KernelIdeal.sig) → Buf (Elt Ideal) ℓ}
variable (ρ : Dev Cert.KernelIdeal.nD → PrngReg) {x : Whole} {w : Rows}

/-- Each device's result is its block of rows of the reference's result. -/
theorem Holds.outAt_block (H : Holds m x w) (c : Dev Cert.KernelIdeal.nD) :
    outAt m ρ c = Layout.block ⟨2, ![512, 2048]⟩ ⟨2, ![4096, 2048]⟩ 0 8 c (Cert.ReferenceIdealProof.result x w) := by
  funext i
  have e := ValueIdx.eq_ix2 (n0 := 512) (n1 := 2048) i
  generalize (i 0 : Fin 512) = r at e
  generalize (i 1 : Fin 2048) = l at e
  subst e
  refine (H.outAt_eq ρ c _ (fun z => Cert.ReferenceIdealProof.amax_le x w (fun b => b.elim0) z) r l).trans ?_
  exact ((block_rows c (Cert.ReferenceIdealProof.result x w) r l).trans (Cert.ReferenceIdealProof.result_apply x w (row c r) l)).symm

/-- From arguments that hold the reference's, the kernel's result is the reference's, block by block. -/
theorem algebraic : Cert.algebraic_KernelIdeal_ReferenceIdeal (hKernelIdeal := Cert.KernelIdeal.Gen.facts)
    (hReferenceIdeal := Cert.ReferenceIdeal.Gen.facts) := fun m g m' g' _ hm =>
  ⟨Cert.ReferenceIdealProof.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun r h c => ⟨(h c).1.trans (Holds.outAt_block g hm c), (h c).2⟩) (run_result m g),
    (θ_run _ _ _).mono (fun r h => h 0) (Cert.ReferenceIdealProof.run_result m' g')⟩

end Cert.KernelIdealProof
-- ==== Proof.lean ====
/-
The claims of this certificate, assembled from the run of the kernel (proved once for any float values, and stated of
both printed programs), the run of the reference, and the equation between their results.
-/
module

public import proofs.«01_k».proof.Defs
public import proofs.«01_k».proof.Proof.Frame
public import proofs.«01_k».proof.Proof.Printed.Frame
public import proofs.«01_k».proof.Proof.Gen.ReferenceIdeal.Run
public import proofs.«01_k».proof.Proof.Equation

@[expose] public section

noncomputable section

namespace Cert.Proof

open Idealize.ShloMosaic Idealize.SL.Sem Cert.Kernel

/-- The claims. -/
theorem claim : Cert.Claim := ⟨Cert.Kernel.Gen.facts, Cert.KernelIdeal.Gen.facts, Cert.ReferenceIdeal.Gen.facts,
  fun m g _ => Cert.KernelProof.frame m g,
  fun m g _ => Cert.KernelIdealProof.frame m g,
  fun m g _ => (θ_run _ _ _).mono (fun r h => ⟨fun c => (h c).2, sem_eq_zero_of_no_sems rfl r.2⟩) (Cert.ReferenceIdeal.Value.run m g),
  trivial,
  Cert.KernelIdealProof.algebraic⟩

end Cert.Proof

end
